-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_wrapping_bin [hPre_no_wrapping_bin : Cert.Pre_no_wrapping_bin.Facts] (m : (ℓ : Loc Cert.KernelIdeal.nD Cert.KernelIdeal.τ Cert.KernelIdeal.sig) → Buf (Elt Ideal) ℓ) : Prop :=
  ∀ c : Dev Cert.KernelIdeal.nD,
    (Cert.Pre_no_wrapping_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_no_wrapping_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_wrapping_bin [hPre_no_wrapping_bin : Cert.Pre_no_wrapping_bin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_wrapping_bin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_no_wrapping_bin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_wrapping_bin [hKernelIdeal : Cert.KernelIdeal.Facts] [hPre_no_wrapping_bin : Cert.Pre_no_wrapping_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_wrapping_bin m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_wrapping_bin [hReferenceIdeal : Cert.ReferenceIdeal.Facts] [hPre_no_wrapping_bin : Cert.Pre_no_wrapping_bin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_wrapping_bin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_wrapping_bin [hKernelIdeal : Cert.KernelIdeal.Facts] [hReferenceIdeal : Cert.ReferenceIdeal.Facts] [hPre_no_wrapping_bin : Cert.Pre_no_wrapping_bin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_wrapping_bin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_wrapping_bin : Cert.Pre_no_wrapping_bin.Facts),
    quiescent_Kernel (hKernel := hKernel)
    ∧ quiescent_KernelIdeal (hKernelIdeal := hKernelIdeal)
    ∧ quiescent_KernelIdeal_pre_no_wrapping_bin (hKernelIdeal := hKernelIdeal) (hPre_no_wrapping_bin := hPre_no_wrapping_bin)
    ∧ quiescent_ReferenceIdeal (hReferenceIdeal := hReferenceIdeal)
    ∧ quiescent_ReferenceIdeal_pre_no_wrapping_bin (hReferenceIdeal := hReferenceIdeal) (hPre_no_wrapping_bin := hPre_no_wrapping_bin)
    ∧ preserves_Kernel_KernelIdeal
    ∧ algebraic_KernelIdeal_ReferenceIdeal_pre_no_wrapping_bin (hKernelIdeal := hKernelIdeal) (hReferenceIdeal := hReferenceIdeal) (hPre_no_wrapping_bin := hPre_no_wrapping_bin)
-- ==== Pre_no_wrapping_bin.lean ====
abbrev S16x3x512x512 : Shape := ⟨4, ![16, 3, 512, 512]⟩
abbrev S_ : Shape := ⟨0, ![]⟩
abbrev S16x1x512x512 : Shape := ⟨4, ![16, 1, 512, 512]⟩
abbrev S16x512x512 : Shape := ⟨3, ![16, 512, 512]⟩

class Facts : Prop where
  bcast_S_S16x3x512x512 : S_.BroadcastsInDim S16x3x512x512 (![] : Fin 0 → Fin S16x3x512x512.rank)
  slices_S16x3x512x512_S16x1x512x512_0_0_0_0 : S16x3x512x512.Slices ![0, 0, 0, 0] S16x1x512x512
  shapeCasts_S16x1x512x512_S16x512x512 : S16x1x512x512.ShapeCasts S16x512x512
  bcast_S_S16x512x512 : S_.BroadcastsInDim S16x512x512 (![] : Fin 0 → Fin S16x512x512.rank)
  slices_S16x3x512x512_S16x1x512x512_0_1_0_0 : S16x3x512x512.Slices ![0, 1, 0, 0] S16x1x512x512
  slices_S16x3x512x512_S16x1x512x512_0_2_0_0 : S16x3x512x512.Slices ![0, 2, 0, 0] S16x1x512x512

variable [Facts]

def fn_part2 {F : FTy → Type} [FloatOps F] (main_v21 : IVec S16x512x512 1) (main_v34 : FVec F S16x512x512 .f32) (main_v36 : FVec F S16x512x512 .f32) : IVec S16x512x512 1 × IVec S16x512x512 1 :=
  let main_cst_10 : FVec F S_ .f32 := constant S_ .f32 0x3DE978D5#32
  let main_v37 : FVec F S16x512x512 .f32 := broadcastInDim S16x512x512 ![] bcast_S_S16x512x512 main_cst_10
  let main_v38 : FVec F S16x512x512 .f32 := mulf main_v36 main_v37
  let main_v39 : FVec F S16x512x512 .f32 := addf main_v34 main_v38
  let main_cst_11 : FVec F S_ .f32 := constant S_ .f32 0x42800000#32
  let main_v40 : FVec F S16x512x512 .f32 := broadcastInDim S16x512x512 ![] bcast_S_S16x512x512 main_cst_11
  let main_v41 : FVec F S16x512x512 .f32 := mulf main_v39 main_v40
  let main_cst_12 : FVec F S_ .f32 := constant S_ .f32 0xCF000000#32
  let main_v42 : FVec F S16x512x512 .f32 := broadcastInDim S16x512x512 ![] bcast_S_S16x512x512 main_cst_12
  let main_v43 : IVec S16x512x512 1 := cmpf .une main_v41 main_v42
  (main_v21, main_v43)

def fn_part1 {F : FTy → Type} [FloatOps F] (main_arg1 : FVec F S16x3x512x512 .f32) (main_v17 : FVec F S16x512x512 .f32) (main_cst_4 : FVec F S_ .f32) : IVec S16x512x512 1 × IVec S16x512x512 1 :=
  let main_v18 : FVec F S16x512x512 .f32 := broadcastInDim S16x512x512 ![] bcast_S_S16x512x512 main_cst_4
  let main_v19 : FVec F S16x512x512 .f32 := mulf main_v17 main_v18
  let main_cst_5 : FVec F S_ .f32 := constant S_ .f32 0xCF000000#32
  let main_v20 : FVec F S16x512x512 .f32 := broadcastInDim S16x512x512 ![] bcast_S_S16x512x512 main_cst_5
  let main_v21 : IVec S16x512x512 1 := cmpf .une main_v19 main_v20
  let main_cst_6 : FVec F S_ .f32 := constant S_ .f32 0x3F800000#32
  let main_v22 : FVec F S16x3x512x512 .f32 := broadcastInDim S16x3x512x512 ![] bcast_S_S16x3x512x512 main_cst_6
  let main_v23 : FVec F S16x3x512x512 .f32 := addf main_arg1 main_v22
  let main_cst_7 : FVec F S_ .f32 := constant S_ .f32 0x3F000000#32
  let main_v24 : FVec F S16x3x512x512 .f32 := broadcastInDim S16x3x512x512 ![] bcast_S_S16x3x512x512 main_cst_7
  let main_v25 : FVec F S16x3x512x512 .f32 := mulf main_v23 main_v24
  let main_v26 : FVec F S16x1x512x512 .f32 := (extractStridedSlice S16x1x512x512 ![0, 0, 0, 0] · slices_S16x3x512x512_S16x1x512x512_0_0_0_0) main_v25
  let main_v27 : FVec F S16x512x512 .f32 := shapeCast S16x512x512 main_v26 shapeCasts_S16x1x512x512_S16x512x512
  let main_cst_8 : FVec F S_ .f32 := constant S_ .f32 0x3E991687#32
  let main_v28 : FVec F S16x512x512 .f32 := broadcastInDim S16x512x512 ![] bcast_S_S16x512x512 main_cst_8
  let main_v29 : FVec F S16x512x512 .f32 := mulf main_v27 main_v28
  let main_v30 : FVec F S16x1x512x512 .f32 := (extractStridedSlice S16x1x512x512 ![0, 1, 0, 0] · slices_S16x3x512x512_S16x1x512x512_0_1_0_0) main_v25
  let main_v31 : FVec F S16x512x512 .f32 := shapeCast S16x512x512 main_v30 shapeCasts_S16x1x512x512_S16x512x512
  let main_cst_9 : FVec F S_ .f32 := constant S_ .f32 0x3F1645A2#32
  let main_v32 : FVec F S16x512x512 .f32 := broadcastInDim S16x512x512 ![] bcast_S_S16x512x512 main_cst_9
  let main_v33 : FVec F S16x512x512 .f32 := mulf main_v31 main_v32
  let main_v34 : FVec F S16x512x512 .f32 := addf main_v29 main_v33
  let main_v35 : FVec F S16x1x512x512 .f32 := (extractStridedSlice S16x1x512x512 ![0, 2, 0, 0] · slices_S16x3x512x512_S16x1x512x512_0_2_0_0) main_v25
  let main_v36 : FVec F S16x512x512 .f32 := shapeCast S16x512x512 main_v35 shapeCasts_S16x1x512x512_S16x512x512
  fn_part2 (F := F) main_v21 main_v34 main_v36

def fn {F : FTy → Type} [FloatOps F] (main_arg0 : FVec F S16x3x512x512 .f32) (main_arg1 : FVec F S16x3x512x512 .f32) : IVec S16x512x512 1 × IVec S16x512x512 1 :=
  let main_cst : FVec F S_ .f32 := constant S_ .f32 0x3F800000#32
  let main_v0 : FVec F S16x3x512x512 .f32 := broadcastInDim S16x3x512x512 ![] bcast_S_S16x3x512x512 main_cst
  let main_v1 : FVec F S16x3x512x512 .f32 := addf main_arg0 main_v0
  let main_cst_0 : FVec F S_ .f32 := constant S_ .f32 0x3F000000#32
  let main_v2 : FVec F S16x3x512x512 .f32 := broadcastInDim S16x3x512x512 ![] bcast_S_S16x3x512x512 main_cst_0
  let main_v3 : FVec F S16x3x512x512 .f32 := mulf main_v1 main_v2
  let main_v4 : FVec F S16x1x512x512 .f32 := (extractStridedSlice S16x1x512x512 ![0, 0, 0, 0] · slices_S16x3x512x512_S16x1x512x512_0_0_0_0) main_v3
  let main_v5 : FVec F S16x512x512 .f32 := shapeCast S16x512x512 main_v4 shapeCasts_S16x1x512x512_S16x512x512
  let main_cst_1 : FVec F S_ .f32 := constant S_ .f32 0x3E991687#32
  let main_v6 : FVec F S16x512x512 .f32 := broadcastInDim S16x512x512 ![] bcast_S_S16x512x512 main_cst_1
  let main_v7 : FVec F S16x512x512 .f32 := mulf main_v5 main_v6
  let main_v8 : FVec F S16x1x512x512 .f32 := (extractStridedSlice S16x1x512x512 ![0, 1, 0, 0] · slices_S16x3x512x512_S16x1x512x512_0_1_0_0) main_v3
  let main_v9 : FVec F S16x512x512 .f32 := shapeCast S16x512x512 main_v8 shapeCasts_S16x1x512x512_S16x512x512
  let main_cst_2 : FVec F S_ .f32 := constant S_ .f32 0x3F1645A2#32
  let main_v10 : FVec F S16x512x512 .f32 := broadcastInDim S16x512x512 ![] bcast_S_S16x512x512 main_cst_2
  let main_v11 : FVec F S16x512x512 .f32 := mulf main_v9 main_v10
  let main_v12 : FVec F S16x512x512 .f32 := addf main_v7 main_v11
  let main_v13 : FVec F S16x1x512x512 .f32 := (extractStridedSlice S16x1x512x512 ![0, 2, 0, 0] · slices_S16x3x512x512_S16x1x512x512_0_2_0_0) main_v3
  let main_v14 : FVec F S16x512x512 .f32 := shapeCast S16x512x512 main_v13 shapeCasts_S16x1x512x512_S16x512x512
  let main_cst_3 : FVec F S_ .f32 := constant S_ .f32 0x3DE978D5#32
  let main_v15 : FVec F S16x512x512 .f32 := broadcastInDim S16x512x512 ![] bcast_S_S16x512x512 main_cst_3
  let main_v16 : FVec F S16x512x512 .f32 := mulf main_v14 main_v15
  let main_v17 : FVec F S16x512x512 .f32 := addf main_v12 main_v16
  let main_cst_4 : FVec F S_ .f32 := constant S_ .f32 0x42800000#32
  fn_part1 (F := F) main_arg1 main_v17 main_cst_4
-- ==== Kernel.lean ====
abbrev S16x3x512x512 : Shape := ⟨4, ![16, 3, 512, 512]⟩
abbrev S48x512x512 : Shape := ⟨3, ![48, 512, 512]⟩
abbrev S32768 : Shape := ⟨1, ![32768]⟩
abbrev S1536 : Shape := ⟨1, ![1536]⟩
abbrev S16x512 : Shape := ⟨2, ![16, 512]⟩
abbrev S1024 : Shape := ⟨1, ![1024]⟩
abbrev S48 : Shape := ⟨1, ![48]⟩
abbrev S_ : Shape := ⟨0, ![]⟩
abbrev S16 : Shape := ⟨1, ![16]⟩
abbrev S1x16x512 : Shape := ⟨3, ![1, 16, 512]⟩
abbrev S1x16 : Shape := ⟨2, ![1, 16]⟩
abbrev S2x16x64x16 : Shape := ⟨4, ![2, 16, 64, 16]⟩
abbrev S2x16x3x16 : Shape := ⟨4, ![2, 16, 3, 16]⟩
abbrev S1x1 : Shape := ⟨2, ![1, 1]⟩
abbrev S1x16x64x16 : Shape := ⟨4, ![1, 16, 64, 16]⟩
abbrev S16x64x16 : Shape := ⟨3, ![16, 64, 16]⟩
abbrev S16x64 : Shape := ⟨2, ![16, 64]⟩
abbrev S1x16x3x16 : Shape := ⟨4, ![1, 16, 3, 16]⟩
abbrev S16x3x16 : Shape := ⟨3, ![16, 3, 16]⟩
abbrev S16x3 : Shape := ⟨2, ![16, 3]⟩
abbrev S16x1 : Shape := ⟨2, ![16, 1]⟩
abbrev S1x16x1 : Shape := ⟨3, ![1, 16, 1]⟩
abbrev S1 : Shape := ⟨1, ![1]⟩
abbrev S1x1x1 : Shape := ⟨3, ![1, 1, 1]⟩
abbrev S1x16x64 : Shape := ⟨3, ![1, 16, 64]⟩

abbrev nBuf : Table → Nat
  | .hbm => 14
  | .local .tc .vmem => 4
  | .local .tc .smem => 1
  | .local .scVector .vmem => 14
  | _ => 0

abbrev bufTy : (tb : Table) → Fin (nBuf tb) → BufTy
  | .hbm, ⟨0, _⟩ => ⟨S16x3x512x512, .f32⟩
  | .hbm, ⟨1, _⟩ => ⟨S16x3x512x512, .f32⟩
  | .hbm, ⟨2, _⟩ => ⟨S48x512x512, .f32⟩
  | .hbm, ⟨3, _⟩ => ⟨S48x512x512, .f32⟩
  | .hbm, ⟨4, _⟩ => ⟨S32768, .f32⟩
  | .hbm, ⟨5, _⟩ => ⟨S32768, .f32⟩
  | .hbm, ⟨6, _⟩ => ⟨S1536, .f32⟩
  | .hbm, ⟨7, _⟩ => ⟨S1536, .f32⟩
  | .hbm, ⟨8, _⟩ => ⟨S2x16x64x16, .f32⟩
  | .hbm, ⟨9, _⟩ => ⟨S2x16x64x16, .f32⟩
  | .hbm, ⟨10, _⟩ => ⟨S2x16x3x16, .f32⟩
  | .hbm, ⟨11, _⟩ => ⟨S2x16x3x16, .f32⟩
  | .hbm, ⟨12, _⟩ => ⟨S1x1, .f32⟩
  | .hbm, ⟨13, _⟩ => ⟨S_, .f32⟩
  | .local .tc .vmem, ⟨0, _⟩ => ⟨S2x16x64x16, .f32⟩
  | .local .tc .vmem, ⟨1, _⟩ => ⟨S2x16x64x16, .f32⟩
  | .local .tc .vmem, ⟨2, _⟩ => ⟨S2x16x3x16, .f32⟩
  | .local .tc .vmem, ⟨3, _⟩ => ⟨S2x16x3x16, .f32⟩
  | .local .tc .smem, ⟨0, _⟩ => ⟨S1x1, .f32⟩
  | .local .scVector .vmem, ⟨0, _⟩ => ⟨S16x512, .f32⟩
  | .local .scVector .vmem, ⟨1, _⟩ => ⟨S16x512, .f32⟩
  | .local .scVector .vmem, ⟨2, _⟩ => ⟨S16x512, .f32⟩
  | .local .scVector .vmem, ⟨3, _⟩ => ⟨S16x512, .f32⟩
  | .local .scVector .vmem, ⟨4, _⟩ => ⟨S16x512, .f32⟩
  | .local .scVector .vmem, ⟨5, _⟩ => ⟨S16x512, .f32⟩
  | .local .scVector .vmem, ⟨6, _⟩ => ⟨S16x512, .f32⟩
  | .local .scVector .vmem, ⟨7, _⟩ => ⟨S16x512, .f32⟩
  | .local .scVector .vmem, ⟨8, _⟩ => ⟨S16x512, .f32⟩
  | .local .scVector .vmem, ⟨9, _⟩ => ⟨S16x512, .f32⟩
  | .local .scVector .vmem, ⟨10, _⟩ => ⟨S16x512, .f32⟩
  | .local .scVector .vmem, ⟨11, _⟩ => ⟨S16x512, .f32⟩
  | .local .scVector .vmem, ⟨12, _⟩ => ⟨S1024, .f32⟩
  | .local .scVector .vmem, ⟨13, _⟩ => ⟨S48, .f32⟩
  | _, _ => ⟨S16x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev main_v2_2_scv : Ref sig .scVector := ⟨.hbm, 6, rfl⟩
abbrev main_v2_3_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 3 → Nat :=
  let arg1 : BitVec 32 := BitVec.ofNat 32 (i 1).val
  let c3_i32 : BitVec 32 := 3#32
  let v71 : BitVec 32 := Scalar.muli arg1 c3_i32
  let v72 : BitVec 32 := Scalar.addi v71 c0_i32
  let arg0 : BitVec 32 := BitVec.ofNat 32 (i 0).val
  let c256_i32 : BitVec 32 := 256#32
  let v6 : BitVec 32 := Scalar.muli arg0 c256_i32
  let v73 : BitVec 32 := Scalar.addi v6 c0_i32_1
  let c0_i32_2 : BitVec 32 := 0#32
  ![v72.toNat, v73.toNat, 0]
@[reducible] def k0_t1_loop : Scf.Loop 32 :=
  let c0_i32_61 : BitVec 32 := 0#32
  let c512_i32 : BitVec 32 := 512#32
  let v167 : BitVec 32 := Scalar.addi c0_i32_61 c512_i32
  let c1_i32_62 : BitVec 32 := 1#32
  ⟨c0_i32_61, v167, c1_i32_62⟩
def k0_off2 (k0_t1 : Fin k0_t1_loop.trips) : Fin 2 → Nat :=
  let c0_i32_61 : BitVec 32 := 0#32
  let c1_i32_62 : BitVec 32 := 1#32
  let arg26 : BitVec 32 := Scf.iv c0_i32_61 c1_i32_62 k0_t1
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk1 (v1312 : IVec S16 32) : Prop :=
  (∀ a x, ((![v1312] : Fin 1 → IVec S16 32) a x).toNat < S1024.size a)
theorem k0_idx1_inb : ∀ (v1312 : IVec S16 32) (k0_hw1 : k0_chk1 v1312), ∀ a x, ((![v1312] : Fin 1 → IVec S16 32) a x).toNat < S1024.size a := fun v1312 k0_hw1 => k0_hw1
@[reducible] def k0_t2_loop : Scf.Loop 32 :=
  let c0_i32_84 : BitVec 32 := 0#32
  let c512_i32_85 : BitVec 32 := 512#32
  let v202 : BitVec 32 := Scalar.addi c0_i32_84 c512_i32_85
  let c1_i32_86 : BitVec 32 := 1#32
  ⟨c0_i32_84, v202, c1_i32_86⟩
def k0_off3 (k0_t2 : Fin k0_t2_loop.trips) : Fin 2 → Nat :=
  let c0_i32_84 : BitVec 32 := 0#32
  let c1_i32_86 : BitVec 32 := 1#32
  let arg26 : BitVec 32 := Scf.iv c0_i32_84 c1_i32_86 k0_t2
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk2 (v1312 : IVec S16 32) : Prop :=
  (∀ a x, ((![v1312] : Fin 1 → IVec S16 32) a x).toNat < S1024.size a)
theorem k0_idx2_inb : ∀ (v1312 : IVec S16 32) (k0_hw2 : k0_chk2 v1312), ∀ a x, ((![v1312] : Fin 1 → IVec S16 32) a x).toNat < S1024.size a := fun v1312 k0_hw2 => k0_hw2
@[reducible] def k0_t3_loop : Scf.Loop 32 :=
  let c0_i32_108 : BitVec 32 := 0#32
  let c512_i32_109 : BitVec 32 := 512#32
  let v237 : BitVec 32 := Scalar.addi c0_i32_108 c512_i32_109
  let c1_i32_110 : BitVec 32 := 1#32
  ⟨c0_i32_108, v237, c1_i32_110⟩
def k0_off4 (k0_t3 : Fin k0_t3_loop.trips) : Fin 2 → Nat :=
  let c0_i32_108 : BitVec 32 := 0#32
  let c1_i32_110 : BitVec 32 := 1#32
  let arg26 : BitVec 32 := Scf.iv c0_i32_108 c1_i32_110 k0_t3
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk3 (v1312 : IVec S16 32) : Prop :=
  (∀ a x, ((![v1312] : Fin 1 → IVec S16 32) a x).toNat < S1024.size a)
theorem k0_idx3_inb : ∀ (v1312 : IVec S16 32) (k0_hw3 : k0_chk3 v1312), ∀ a x, ((![v1312] : Fin 1 → IVec S16 32) a x).toNat < S1024.size a := fun v1312 k0_hw3 => k0_hw3
@[reducible] def k0_t4_loop : Scf.Loop 32 :=
  let c0_i32_132 : BitVec 32 := 0#32
  let c512_i32_133 : BitVec 32 := 512#32
  let v272 : BitVec 32 := Scalar.addi c0_i32_132 c512_i32_133
  let c1_i32_134 : BitVec 32 := 1#32
  ⟨c0_i32_132, v272, c1_i32_134⟩
def k0_off5 (k0_t4 : Fin k0_t4_loop.trips) : Fin 2 → Nat :=
  let c0_i32_132 : BitVec 32 := 0#32
  let c1_i32_134 : BitVec 32 := 1#32
  let arg26 : BitVec 32 := Scf.iv c0_i32_132 c1_i32_134 k0_t4
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk4 (v1312 : IVec S16 32) : Prop :=
  (∀ a x, ((![v1312] : Fin 1 → IVec S16 32) a x).toNat < S1024.size a)
theorem k0_idx4_inb : ∀ (v1312 : IVec S16 32) (k0_hw4 : k0_chk4 v1312), ∀ a x, ((![v1312] : Fin 1 → IVec S16 32) a x).toNat < S1024.size a := fun v1312 k0_hw4 => k0_hw4
@[reducible] def k0_t5_loop : Scf.Loop 32 :=
  let c0_i32_156 : BitVec 32 := 0#32
  let c512_i32_157 : BitVec 32 := 512#32
  let v307 : BitVec 32 := Scalar.addi c0_i32_156 c512_i32_157
  let c1_i32_158 : BitVec 32 := 1#32
  ⟨c0_i32_156, v307, c1_i32_158⟩
def k0_off6 (k0_t5 : Fin k0_t5_loop.trips) : Fin 2 → Nat :=
  let c0_i32_156 : BitVec 32 := 0#32
  let c1_i32_158 : BitVec 32 := 1#32
  let arg26 : BitVec 32 := Scf.iv c0_i32_156 c1_i32_158 k0_t5
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk5 (v1312 : IVec S16 32) : Prop :=
  (∀ a x, ((![v1312] : Fin 1 → IVec S16 32) a x).toNat < S1024.size a)
theorem k0_idx5_inb : ∀ (v1312 : IVec S16 32) (k0_hw5 : k0_chk5 v1312), ∀ a x, ((![v1312] : Fin 1 → IVec S16 32) a x).toNat < S1024.size a := fun v1312 k0_hw5 => k0_hw5
@[reducible] def k0_t6_loop : Scf.Loop 32 :=
  let c0_i32_180 : BitVec 32 := 0#32
  let c512_i32_181 : BitVec 32 := 512#32
  let v342 : BitVec 32 := Scalar.addi c0_i32_180 c512_i32_181
  let c1_i32_182 : BitVec 32 := 1#32
  ⟨c0_i32_180, v342, c1_i32_182⟩
def k0_off7 (k0_t6 : Fin k0_t6_loop.trips) : Fin 2 → Nat :=
  let c0_i32_180 : BitVec 32 := 0#32
  let c1_i32_182 : BitVec 32 := 1#32
  let arg26 : BitVec 32 := Scf.iv c0_i32_180 c1_i32_182 k0_t6
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk6 (v1312 : IVec S16 32) : Prop :=
  (∀ a x, ((![v1312] : Fin 1 → IVec S16 32) a x).toNat < S1024.size a)
theorem k0_idx6_inb : ∀ (v1312 : IVec S16 32) (k0_hw6 : k0_chk6 v1312), ∀ a x, ((![v1312] : Fin 1 → IVec S16 32) a x).toNat < S1024.size a := fun v1312 k0_hw6 => k0_hw6
@[reducible] def k0_t7_loop : Scf.Loop 32 :=
  let c0_i32_204 : BitVec 32 := 0#32
  let c512_i32_205 : BitVec 32 := 512#32
  let v377 : BitVec 32 := Scalar.addi c0_i32_204 c512_i32_205
  let c1_i32_206 : BitVec 32 := 1#32
  ⟨c0_i32_204, v377, c1_i32_206⟩
def k0_off8 (k0_t7 : Fin k0_t7_loop.trips) : Fin 2 → Nat :=
  let c0_i32_204 : BitVec 32 := 0#32
  let c1_i32_206 : BitVec 32 := 1#32
  let arg26 : BitVec 32 := Scf.iv c0_i32_204 c1_i32_206 k0_t7
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk7 (v1312 : IVec S16 32) : Prop :=
  (∀ a x, ((![v1312] : Fin 1 → IVec S16 32) a x).toNat < S1024.size a)
theorem k0_idx7_inb : ∀ (v1312 : IVec S16 32) (k0_hw7 : k0_chk7 v1312), ∀ a x, ((![v1312] : Fin 1 → IVec S16 32) a x).toNat < S1024.size a := fun v1312 k0_hw7 => k0_hw7
@[reducible] def k0_t8_loop : Scf.Loop 32 :=
  let c0_i32_228 : BitVec 32 := 0#32
  let c512_i32_229 : BitVec 32 := 512#32
  let v412 : BitVec 32 := Scalar.addi c0_i32_228 c512_i32_229
  let c1_i32_230 : BitVec 32 := 1#32
  ⟨c0_i32_228, v412, c1_i32_230⟩
def k0_off9 (k0_t8 : Fin k0_t8_loop.trips) : Fin 2 → Nat :=
  let c0_i32_228 : BitVec 32 := 0#32
  let c1_i32_230 : BitVec 32 := 1#32
  let arg26 : BitVec 32 := Scf.iv c0_i32_228 c1_i32_230 k0_t8
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk8 (v1312 : IVec S16 32) : Prop :=
  (∀ a x, ((![v1312] : Fin 1 → IVec S16 32) a x).toNat < S1024.size a)
theorem k0_idx8_inb : ∀ (v1312 : IVec S16 32) (k0_hw8 : k0_chk8 v1312), ∀ a x, ((![v1312] : Fin 1 → IVec S16 32) a x).toNat < S1024.size a := fun v1312 k0_hw8 => k0_hw8
@[reducible] def k0_t9_loop : Scf.Loop 32 :=
  let c0_i32_252 : BitVec 32 := 0#32
  let c512_i32_253 : BitVec 32 := 512#32
  let v447 : BitVec 32 := Scalar.addi c0_i32_252 c512_i32_253
  let c1_i32_254 : BitVec 32 := 1#32
  ⟨c0_i32_252, v447, c1_i32_254⟩
def k0_off10 (k0_t9 : Fin k0_t9_loop.trips) : Fin 2 → Nat :=
  let c0_i32_252 : BitVec 32 := 0#32
  let c1_i32_254 : BitVec 32 := 1#32
  let arg26 : BitVec 32 := Scf.iv c0_i32_252 c1_i32_254 k0_t9
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk9 (v1312 : IVec S16 32) : Prop :=
  (∀ a x, ((![v1312] : Fin 1 → IVec S16 32) a x).toNat < S1024.size a)
theorem k0_idx9_inb : ∀ (v1312 : IVec S16 32) (k0_hw9 : k0_chk9 v1312), ∀ a x, ((![v1312] : Fin 1 → IVec S16 32) a x).toNat < S1024.size a := fun v1312 k0_hw9 => k0_hw9
@[reducible] def k0_t10_loop : Scf.Loop 32 :=
  let c0_i32_276 : BitVec 32 := 0#32
  let c512_i32_277 : BitVec 32 := 512#32
  let v482 : BitVec 32 := Scalar.addi c0_i32_276 c512_i32_277
  let c1_i32_278 : BitVec 32 := 1#32
  ⟨c0_i32_276, v482, c1_i32_278⟩
def k0_off11 (k0_t10 : Fin k0_t10_loop.trips) : Fin 2 → Nat :=
  let c0_i32_276 : BitVec 32 := 0#32
  let c1_i32_278 : BitVec 32 := 1#32
  let arg26 : BitVec 32 := Scf.iv c0_i32_276 c1_i32_278 k0_t10
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk10 (v1312 : IVec S16 32) : Prop :=
  (∀ a x, ((![v1312] : Fin 1 → IVec S16 32) a x).toNat < S1024.size a)
theorem k0_idx10_inb : ∀ (v1312 : IVec S16 32) (k0_hw10 : k0_chk10 v1312), ∀ a x, ((![v1312] : Fin 1 → IVec S16 32) a x).toNat < S1024.size a := fun v1312 k0_hw10 => k0_hw10
@[reducible] def k0_t11_loop : Scf.Loop 32 :=
  let c0_i32_300 : BitVec 32 := 0#32
  let c512_i32_301 : BitVec 32 := 512#32
  let v517 : BitVec 32 := Scalar.addi c0_i32_300 c512_i32_301
  let c1_i32_302 : BitVec 32 := 1#32
  ⟨c0_i32_300, v517, c1_i32_302⟩
def k0_off12 (k0_t11 : Fin k0_t11_loop.trips) : Fin 2 → Nat :=
  let c0_i32_300 : BitVec 32 := 0#32
  let c1_i32_302 : BitVec 32 := 1#32
  let arg26 : BitVec 32 := Scf.iv c0_i32_300 c1_i32_302 k0_t11
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk11 (v1312 : IVec S16 32) : Prop :=
  (∀ a x, ((![v1312] : Fin 1 → IVec S16 32) a x).toNat < S1024.size a)
theorem k0_idx11_inb : ∀ (v1312 : IVec S16 32) (k0_hw11 : k0_chk11 v1312), ∀ a x, ((![v1312] : Fin 1 → IVec S16 32) a x).toNat < S1024.size a := fun v1312 k0_hw11 => k0_hw11
@[reducible] def k0_t12_loop : Scf.Loop 32 :=
  let c0_i32_324 : BitVec 32 := 0#32
  let c512_i32_325 : BitVec 32 := 512#32
  let v552 : BitVec 32 := Scalar.addi c0_i32_324 c512_i32_325
  let c1_i32_326 : BitVec 32 := 1#32
  ⟨c0_i32_324, v552, c1_i32_326⟩
def k0_off13 (k0_t12 : Fin k0_t12_loop.trips) : Fin 2 → Nat :=
  let c0_i32_324 : BitVec 32 := 0#32
  let c1_i32_326 : BitVec 32 := 1#32
  let arg26 : BitVec 32 := Scf.iv c0_i32_324 c1_i32_326 k0_t12
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk12 (v1312 : IVec S16 32) : Prop :=
  (∀ a x, ((![v1312] : Fin 1 → IVec S16 32) a x).toNat < S1024.size a)
theorem k0_idx12_inb : ∀ (v1312 : IVec S16 32) (k0_hw12 : k0_chk12 v1312), ∀ a x, ((![v1312] : Fin 1 → IVec S16 32) a x).toNat < S1024.size a := fun v1312 k0_hw12 => k0_hw12
@[reducible] def k0_t13_loop : Scf.Loop 32 :=
  let c0_i32_348 : BitVec 32 := 0#32
  let c512_i32_349 : BitVec 32 := 512#32
  let v587 : BitVec 32 := Scalar.addi c0_i32_348 c512_i32_349
  let c1_i32_350 : BitVec 32 := 1#32
  ⟨c0_i32_348, v587, c1_i32_350⟩
def k0_off14 (k0_t13 : Fin k0_t13_loop.trips) : Fin 2 → Nat :=
  let c0_i32_348 : BitVec 32 := 0#32
  let c1_i32_350 : BitVec 32 := 1#32
  let arg26 : BitVec 32 := Scf.iv c0_i32_348 c1_i32_350 k0_t13
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk13 (v1312 : IVec S16 32) : Prop :=
  (∀ a x, ((![v1312] : Fin 1 → IVec S16 32) a x).toNat < S1024.size a)
theorem k0_idx13_inb : ∀ (v1312 : IVec S16 32) (k0_hw13 : k0_chk13 v1312), ∀ a x, ((![v1312] : Fin 1 → IVec S16 32) a x).toNat < S1024.size a := fun v1312 k0_hw13 => k0_hw13
@[reducible] def k0_t14_loop : Scf.Loop 32 :=
  let c0_i32_358 : BitVec 32 := 0#32
  let c512_i32_359 : BitVec 32 := 512#32
  let v601 : BitVec 32 := Scalar.addi c0_i32_358 c512_i32_359
  let c1_i32_360 : BitVec 32 := 1#32
  ⟨c0_i32_358, v601, c1_i32_360⟩
def k0_off15 (k0_t14 : Fin k0_t14_loop.trips) : Fin 2 → Nat :=
  let c0_i32_358 : BitVec 32 := 0#32
  let c1_i32_360 : BitVec 32 := 1#32
  let arg26 : BitVec 32 := Scf.iv c0_i32_358 c1_i32_360 k0_t14
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk14 (v1312 : IVec S16 32) : Prop :=
  (∀ a x, ((![v1312] : Fin 1 → IVec S16 32) a x).toNat < S1024.size a)
theorem k0_idx14_inb : ∀ (v1312 : IVec S16 32) (k0_hw14 : k0_chk14 v1312), ∀ a x, ((![v1312] : Fin 1 → IVec S16 32) a x).toNat < S1024.size a := fun v1312 k0_hw14 => k0_hw14
@[reducible] def k0_t15_loop : Scf.Loop 32 :=
  let c0_i32_368 : BitVec 32 := 0#32
  let c512_i32_369 : BitVec 32 := 512#32
  let v615 : BitVec 32 := Scalar.addi c0_i32_368 c512_i32_369
  let c1_i32_370 : BitVec 32 := 1#32
  ⟨c0_i32_368, v615, c1_i32_370⟩
def k0_off16 (k0_t15 : Fin k0_t15_loop.trips) : Fin 2 → Nat :=
  let c0_i32_368 : BitVec 32 := 0#32
  let c1_i32_370 : BitVec 32 := 1#32
  let arg26 : BitVec 32 := Scf.iv c0_i32_368 c1_i32_370 k0_t15
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk15 (v1312 : IVec S16 32) : Prop :=
  (∀ a x, ((![v1312] : Fin 1 → IVec S16 32) a x).toNat < S1024.size a)
theorem k0_idx15_inb : ∀ (v1312 : IVec S16 32) (k0_hw15 : k0_chk15 v1312), ∀ a x, ((![v1312] : Fin 1 → IVec S16 32) a x).toNat < S1024.size a := fun v1312 k0_hw15 => k0_hw15
@[reducible] def k0_t16_loop : Scf.Loop 32 :=
  let c0_i32_378 : BitVec 32 := 0#32
  let c512_i32_379 : BitVec 32 := 512#32
  let v629 : BitVec 32 := Scalar.addi c0_i32_378 c512_i32_379
  let c1_i32_380 : BitVec 32 := 1#32
  ⟨c0_i32_378, v629, c1_i32_380⟩
def k0_off17 (k0_t16 : Fin k0_t16_loop.trips) : Fin 2 → Nat :=
  let c0_i32_378 : BitVec 32 := 0#32
  let c1_i32_380 : BitVec 32 := 1#32
  let arg26 : BitVec 32 := Scf.iv c0_i32_378 c1_i32_380 k0_t16
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk16 (v1312 : IVec S16 32) : Prop :=
  (∀ a x, ((![v1312] : Fin 1 → IVec S16 32) a x).toNat < S1024.size a)
theorem k0_idx16_inb : ∀ (v1312 : IVec S16 32) (k0_hw16 : k0_chk16 v1312), ∀ a x, ((![v1312] : Fin 1 → IVec S16 32) a x).toNat < S1024.size a := fun v1312 k0_hw16 => k0_hw16
def k0_off18 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v634 : BitVec 32 := Scalar.muli v1 c1024_i32
  ![v634.toNat]
def k0_off19 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c48_i32_385 : BitVec 32 := 48#32
  let v635 : BitVec 32 := Scalar.muli v1 c48_i32_385
  ![v635.toNat]
@[reducible] def k0_t17_loop : Scf.Loop 32 :=
  let c0_i32_516 : BitVec 32 := 0#32
  let c512_i32_517 : BitVec 32 := 512#32
  let v796 : BitVec 32 := Scalar.addi c0_i32_516 c512_i32_517
  let c1_i32_518 : BitVec 32 := 1#32
  ⟨c0_i32_516, v796, c1_i32_518⟩
def k0_off20 (k0_t17 : Fin k0_t17_loop.trips) : Fin 2 → Nat :=
  let c0_i32_516 : BitVec 32 := 0#32
  let c1_i32_518 : BitVec 32 := 1#32
  let arg26 : BitVec 32 := Scf.iv c0_i32_516 c1_i32_518 k0_t17
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk17 (v1312 : IVec S16 32) : Prop :=
  (∀ a x, ((![v1312] : Fin 1 → IVec S16 32) a x).toNat < S1024.size a)
theorem k0_idx17_inb : ∀ (v1312 : IVec S16 32) (k0_hw17 : k0_chk17 v1312), ∀ a x, ((![v1312] : Fin 1 → IVec S16 32) a x).toNat < S1024.size a := fun v1312 k0_hw17 => k0_hw17
@[reducible] def k0_t18_loop : Scf.Loop 32 :=
  let c0_i32_541 : BitVec 32 := 0#32
  let c512_i32_542 : BitVec 32 := 512#32
  let v831 : BitVec 32 := Scalar.addi c0_i32_541 c512_i32_542
  let c1_i32_543 : BitVec 32 := 1#32
  ⟨c0_i32_541, v831, c1_i32_543⟩
def k0_off21 (k0_t18 : Fin k0_t18_loop.trips) : Fin 2 → Nat :=
  let c0_i32_541 : BitVec 32 := 0#32
  let c1_i32_543 : BitVec 32 := 1#32
  let arg26 : BitVec 32 := Scf.iv c0_i32_541 c1_i32_543 k0_t18
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk18 (v1312 : IVec S16 32) : Prop :=
  (∀ a x, ((![v1312] : Fin 1 → IVec S16 32) a x).toNat < S1024.size a)
theorem k0_idx18_inb : ∀ (v1312 : IVec S16 32) (k0_hw18 : k0_chk18 v1312), ∀ a x, ((![v1312] : Fin 1 → IVec S16 32) a x).toNat < S1024.size a := fun v1312 k0_hw18 => k0_hw18
@[reducible] def k0_t19_loop : Scf.Loop 32 :=
  let c0_i32_566 : BitVec 32 := 0#32
  let c512_i32_567 : BitVec 32 := 512#32
  let v866 : BitVec 32 := Scalar.addi c0_i32_566 c512_i32_567
  let c1_i32_568 : BitVec 32 := 1#32
  ⟨c0_i32_566, v866, c1_i32_568⟩
def k0_off22 (k0_t19 : Fin k0_t19_loop.trips) : Fin 2 → Nat :=
  let c0_i32_566 : BitVec 32 := 0#32
  let c1_i32_568 : BitVec 32 := 1#32
  let arg26 : BitVec 32 := Scf.iv c0_i32_566 c1_i32_568 k0_t19
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk19 (v1312 : IVec S16 32) : Prop :=
  (∀ a x, ((![v1312] : Fin 1 → IVec S16 32) a x).toNat < S1024.size a)
theorem k0_idx19_inb : ∀ (v1312 : IVec S16 32) (k0_hw19 : k0_chk19 v1312), ∀ a x, ((![v1312] : Fin 1 → IVec S16 32) a x).toNat < S1024.size a := fun v1312 k0_hw19 => k0_hw19
@[reducible] def k0_t20_loop : Scf.Loop 32 :=
  let c0_i32_591 : BitVec 32 := 0#32
  let c512_i32_592 : BitVec 32 := 512#32
  let v901 : BitVec 32 := Scalar.addi c0_i32_591 c512_i32_592
  let c1_i32_593 : BitVec 32 := 1#32
  ⟨c0_i32_591, v901, c1_i32_593⟩
def k0_off23 (k0_t20 : Fin k0_t20_loop.trips) : Fin 2 → Nat :=
  let c0_i32_591 : BitVec 32 := 0#32
  let c1_i32_593 : BitVec 32 := 1#32
  let arg26 : BitVec 32 := Scf.iv c0_i32_591 c1_i32_593 k0_t20
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk20 (v1312 : IVec S16 32) : Prop :=
  (∀ a x, ((![v1312] : Fin 1 → IVec S16 32) a x).toNat < S1024.size a)
theorem k0_idx20_inb : ∀ (v1312 : IVec S16 32) (k0_hw20 : k0_chk20 v1312), ∀ a x, ((![v1312] : Fin 1 → IVec S16 32) a x).toNat < S1024.size a := fun v1312 k0_hw20 => k0_hw20
@[reducible] def k0_t21_loop : Scf.Loop 32 :=
  let c0_i32_616 : BitVec 32 := 0#32
  let c512_i32_617 : BitVec 32 := 512#32
  let v936 : BitVec 32 := Scalar.addi c0_i32_616 c512_i32_617
  let c1_i32_618 : BitVec 32 := 1#32
  ⟨c0_i32_616, v936, c1_i32_618⟩
def k0_off24 (k0_t21 : Fin k0_t21_loop.trips) : Fin 2 → Nat :=
  let c0_i32_616 : BitVec 32 := 0#32
  let c1_i32_618 : BitVec 32 := 1#32
  let arg26 : BitVec 32 := Scf.iv c0_i32_616 c1_i32_618 k0_t21
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk21 (v1312 : IVec S16 32) : Prop :=
  (∀ a x, ((![v1312] : Fin 1 → IVec S16 32) a x).toNat < S1024.size a)
theorem k0_idx21_inb : ∀ (v1312 : IVec S16 32) (k0_hw21 : k0_chk21 v1312), ∀ a x, ((![v1312] : Fin 1 → IVec S16 32) a x).toNat < S1024.size a := fun v1312 k0_hw21 => k0_hw21
@[reducible] def k0_t22_loop : Scf.Loop 32 :=
  let c0_i32_641 : BitVec 32 := 0#32
  let c512_i32_642 : BitVec 32 := 512#32
  let v971 : BitVec 32 := Scalar.addi c0_i32_641 c512_i32_642
  let c1_i32_643 : BitVec 32 := 1#32
  ⟨c0_i32_641, v971, c1_i32_643⟩
def k0_off25 (k0_t22 : Fin k0_t22_loop.trips) : Fin 2 → Nat :=
  let c0_i32_641 : BitVec 32 := 0#32
  let c1_i32_643 : BitVec 32 := 1#32
  let arg26 : BitVec 32 := Scf.iv c0_i32_641 c1_i32_643 k0_t22
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk22 (v1312 : IVec S16 32) : Prop :=
  (∀ a x, ((![v1312] : Fin 1 → IVec S16 32) a x).toNat < S1024.size a)
theorem k0_idx22_inb : ∀ (v1312 : IVec S16 32) (k0_hw22 : k0_chk22 v1312), ∀ a x, ((![v1312] : Fin 1 → IVec S16 32) a x).toNat < S1024.size a := fun v1312 k0_hw22 => k0_hw22
@[reducible] def k0_t23_loop : Scf.Loop 32 :=
  let c0_i32_666 : BitVec 32 := 0#32
  let c512_i32_667 : BitVec 32 := 512#32
  let v1006 : BitVec 32 := Scalar.addi c0_i32_666 c512_i32_667
  let c1_i32_668 : BitVec 32 := 1#32
  ⟨c0_i32_666, v1006, c1_i32_668⟩
def k0_off26 (k0_t23 : Fin k0_t23_loop.trips) : Fin 2 → Nat :=
  let c0_i32_666 : BitVec 32 := 0#32
  let c1_i32_668 : BitVec 32 := 1#32
  let arg26 : BitVec 32 := Scf.iv c0_i32_666 c1_i32_668 k0_t23
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk23 (v1312 : IVec S16 32) : Prop :=
  (∀ a x, ((![v1312] : Fin 1 → IVec S16 32) a x).toNat < S1024.size a)
theorem k0_idx23_inb : ∀ (v1312 : IVec S16 32) (k0_hw23 : k0_chk23 v1312), ∀ a x, ((![v1312] : Fin 1 → IVec S16 32) a x).toNat < S1024.size a := fun v1312 k0_hw23 => k0_hw23
@[reducible] def k0_t24_loop : Scf.Loop 32 :=
  let c0_i32_691 : BitVec 32 := 0#32
  let c512_i32_692 : BitVec 32 := 512#32
  let v1041 : BitVec 32 := Scalar.addi c0_i32_691 c512_i32_692
  let c1_i32_693 : BitVec 32 := 1#32
  ⟨c0_i32_691, v1041, c1_i32_693⟩
def k0_off27 (k0_t24 : Fin k0_t24_loop.trips) : Fin 2 → Nat :=
  let c0_i32_691 : BitVec 32 := 0#32
  let c1_i32_693 : BitVec 32 := 1#32
  let arg26 : BitVec 32 := Scf.iv c0_i32_691 c1_i32_693 k0_t24
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk24 (v1312 : IVec S16 32) : Prop :=
  (∀ a x, ((![v1312] : Fin 1 → IVec S16 32) a x).toNat < S1024.size a)
theorem k0_idx24_inb : ∀ (v1312 : IVec S16 32) (k0_hw24 : k0_chk24 v1312), ∀ a x, ((![v1312] : Fin 1 → IVec S16 32) a x).toNat < S1024.size a := fun v1312 k0_hw24 => k0_hw24
@[reducible] def k0_t25_loop : Scf.Loop 32 :=
  let c0_i32_716 : BitVec 32 := 0#32
  let c512_i32_717 : BitVec 32 := 512#32
  let v1076 : BitVec 32 := Scalar.addi c0_i32_716 c512_i32_717
  let c1_i32_718 : BitVec 32 := 1#32
  ⟨c0_i32_716, v1076, c1_i32_718⟩
def k0_off28 (k0_t25 : Fin k0_t25_loop.trips) : Fin 2 → Nat :=
  let c0_i32_716 : BitVec 32 := 0#32
  let c1_i32_718 : BitVec 32 := 1#32
  let arg26 : BitVec 32 := Scf.iv c0_i32_716 c1_i32_718 k0_t25
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk25 (v1312 : IVec S16 32) : Prop :=
  (∀ a x, ((![v1312] : Fin 1 → IVec S16 32) a x).toNat < S1024.size a)
theorem k0_idx25_inb : ∀ (v1312 : IVec S16 32) (k0_hw25 : k0_chk25 v1312), ∀ a x, ((![v1312] : Fin 1 → IVec S16 32) a x).toNat < S1024.size a := fun v1312 k0_hw25 => k0_hw25
@[reducible] def k0_t26_loop : Scf.Loop 32 :=
  let c0_i32_741 : BitVec 32 := 0#32
  let c512_i32_742 : BitVec 32 := 512#32
  let v1111 : BitVec 32 := Scalar.addi c0_i32_741 c512_i32_742
  let c1_i32_743 : BitVec 32 := 1#32
  ⟨c0_i32_741, v1111, c1_i32_743⟩
def k0_off29 (k0_t26 : Fin k0_t26_loop.trips) : Fin 2 → Nat :=
  let c0_i32_741 : BitVec 32 := 0#32
  let c1_i32_743 : BitVec 32 := 1#32
  let arg26 : BitVec 32 := Scf.iv c0_i32_741 c1_i32_743 k0_t26
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk26 (v1312 : IVec S16 32) : Prop :=
  (∀ a x, ((![v1312] : Fin 1 → IVec S16 32) a x).toNat < S1024.size a)
theorem k0_idx26_inb : ∀ (v1312 : IVec S16 32) (k0_hw26 : k0_chk26 v1312), ∀ a x, ((![v1312] : Fin 1 → IVec S16 32) a x).toNat < S1024.size a := fun v1312 k0_hw26 => k0_hw26
@[reducible] def k0_t27_loop : Scf.Loop 32 :=
  let c0_i32_766 : BitVec 32 := 0#32
  let c512_i32_767 : BitVec 32 := 512#32
  let v1146 : BitVec 32 := Scalar.addi c0_i32_766 c512_i32_767
  let c1_i32_768 : BitVec 32 := 1#32
  ⟨c0_i32_766, v1146, c1_i32_768⟩
def k0_off30 (k0_t27 : Fin k0_t27_loop.trips) : Fin 2 → Nat :=
  let c0_i32_766 : BitVec 32 := 0#32
  let c1_i32_768 : BitVec 32 := 1#32
  let arg26 : BitVec 32 := Scf.iv c0_i32_766 c1_i32_768 k0_t27
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk27 (v1312 : IVec S16 32) : Prop :=
  (∀ a x, ((![v1312] : Fin 1 → IVec S16 32) a x).toNat < S1024.size a)
theorem k0_idx27_inb : ∀ (v1312 : IVec S16 32) (k0_hw27 : k0_chk27 v1312), ∀ a x, ((![v1312] : Fin 1 → IVec S16 32) a x).toNat < S1024.size a := fun v1312 k0_hw27 => k0_hw27
@[reducible] def k0_t28_loop : Scf.Loop 32 :=
  let c0_i32_791 : BitVec 32 := 0#32
  let c512_i32_792 : BitVec 32 := 512#32
  let v1181 : BitVec 32 := Scalar.addi c0_i32_791 c512_i32_792
  let c1_i32_793 : BitVec 32 := 1#32
  ⟨c0_i32_791, v1181, c1_i32_793⟩
def k0_off31 (k0_t28 : Fin k0_t28_loop.trips) : Fin 2 → Nat :=
  let c0_i32_791 : BitVec 32 := 0#32
  let c1_i32_793 : BitVec 32 := 1#32
  let arg26 : BitVec 32 := Scf.iv c0_i32_791 c1_i32_793 k0_t28
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk28 (v1312 : IVec S16 32) : Prop :=
  (∀ a x, ((![v1312] : Fin 1 → IVec S16 32) a x).toNat < S1024.size a)
theorem k0_idx28_inb : ∀ (v1312 : IVec S16 32) (k0_hw28 : k0_chk28 v1312), ∀ a x, ((![v1312] : Fin 1 → IVec S16 32) a x).toNat < S1024.size a := fun v1312 k0_hw28 => k0_hw28
@[reducible] def k0_t29_loop : Scf.Loop 32 :=
  let c0_i32_816 : BitVec 32 := 0#32
  let c512_i32_817 : BitVec 32 := 512#32
  let v1216 : BitVec 32 := Scalar.addi c0_i32_816 c512_i32_817
  let c1_i32_818 : BitVec 32 := 1#32
  ⟨c0_i32_816, v1216, c1_i32_818⟩
def k0_off32 (k0_t29 : Fin k0_t29_loop.trips) : Fin 2 → Nat :=
  let c0_i32_816 : BitVec 32 := 0#32
  let c1_i32_818 : BitVec 32 := 1#32
  let arg26 : BitVec 32 := Scf.iv c0_i32_816 c1_i32_818 k0_t29
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk29 (v1312 : IVec S16 32) : Prop :=
  (∀ a x, ((![v1312] : Fin 1 → IVec S16 32) a x).toNat < S1024.size a)
theorem k0_idx29_inb : ∀ (v1312 : IVec S16 32) (k0_hw29 : k0_chk29 v1312), ∀ a x, ((![v1312] : Fin 1 → IVec S16 32) a x).toNat < S1024.size a := fun v1312 k0_hw29 => k0_hw29
@[reducible] def k0_t30_loop : Scf.Loop 32 :=
  let c0_i32_826 : BitVec 32 := 0#32
  let c512_i32_827 : BitVec 32 := 512#32
  let v1230 : BitVec 32 := Scalar.addi c0_i32_826 c512_i32_827
  let c1_i32_828 : BitVec 32 := 1#32
  ⟨c0_i32_826, v1230, c1_i32_828⟩
def k0_off33 (k0_t30 : Fin k0_t30_loop.trips) : Fin 2 → Nat :=
  let c0_i32_826 : BitVec 32 := 0#32
  let c1_i32_828 : BitVec 32 := 1#32
  let arg26 : BitVec 32 := Scf.iv c0_i32_826 c1_i32_828 k0_t30
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk30 (v1312 : IVec S16 32) : Prop :=
  (∀ a x, ((![v1312] : Fin 1 → IVec S16 32) a x).toNat < S1024.size a)
theorem k0_idx30_inb : ∀ (v1312 : IVec S16 32) (k0_hw30 : k0_chk30 v1312), ∀ a x, ((![v1312] : Fin 1 → IVec S16 32) a x).toNat < S1024.size a := fun v1312 k0_hw30 => k0_hw30
@[reducible] def k0_t31_loop : Scf.Loop 32 :=
  let c0_i32_836 : BitVec 32 := 0#32
  let c512_i32_837 : BitVec 32 := 512#32
  let v1244 : BitVec 32 := Scalar.addi c0_i32_836 c512_i32_837
  let c1_i32_838 : BitVec 32 := 1#32
  ⟨c0_i32_836, v1244, c1_i32_838⟩
def k0_off34 (k0_t31 : Fin k0_t31_loop.trips) : Fin 2 → Nat :=
  let c0_i32_836 : BitVec 32 := 0#32
  let c1_i32_838 : BitVec 32 := 1#32
  let arg26 : BitVec 32 := Scf.iv c0_i32_836 c1_i32_838 k0_t31
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk31 (v1312 : IVec S16 32) : Prop :=
  (∀ a x, ((![v1312] : Fin 1 → IVec S16 32) a x).toNat < S1024.size a)
theorem k0_idx31_inb : ∀ (v1312 : IVec S16 32) (k0_hw31 : k0_chk31 v1312), ∀ a x, ((![v1312] : Fin 1 → IVec S16 32) a x).toNat < S1024.size a := fun v1312 k0_hw31 => k0_hw31
@[reducible] def k0_t32_loop : Scf.Loop 32 :=
  let c0_i32_846 : BitVec 32 := 0#32
  let c512_i32_847 : BitVec 32 := 512#32
  let v1258 : BitVec 32 := Scalar.addi c0_i32_846 c512_i32_847
  let c1_i32_848 : BitVec 32 := 1#32
  ⟨c0_i32_846, v1258, c1_i32_848⟩
def k0_off35 (k0_t32 : Fin k0_t32_loop.trips) : Fin 2 → Nat :=
  let c0_i32_846 : BitVec 32 := 0#32
  let c1_i32_848 : BitVec 32 := 1#32
  let arg26 : BitVec 32 := Scf.iv c0_i32_846 c1_i32_848 k0_t32
  let c5_i32 : BitVec 32 := 5#32
  let v1265 : BitVec 32 := Scalar.shrui arg26 c5_i32
  let v1268 : Index := Scalar.indexCast v1265
  let c31_i32 : BitVec 32 := 31#32
  let v1266 : BitVec 32 := Scalar.andi arg26 c31_i32
  let c4_i32 : BitVec 32 := 4#32
  let v1267 : BitVec 32 := Scalar.shli v1266 c4_i32
  let v1269 : Index := Scalar.indexCast v1267
  ![v1268.toNat, v1269.toNat]

def k0_chk32 (v1312 : IVec S16 32) : Prop :=
  (∀ a x, ((![v1312] : Fin 1 → IVec S16 32) a x).toNat < S1024.size a)
theorem k0_idx32_inb : ∀ (v1312 : IVec S16 32) (k0_hw32 : k0_chk32 v1312), ∀ a x, ((![v1312] : Fin 1 → IVec S16 32) a x).toNat < S1024.size a := fun v1312 k0_hw32 => k0_hw32
abbrev grid1 : Pipeline.Grid := .none

abbrev stage1_0 : Fin 1 → Memref sig .tc .vmem S2x16x64x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x16x64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x16x3x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x16x3x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3x512x512 : Shape := ⟨4, ![16, 3, 512, 512]⟩
abbrev S3 : Shape := ⟨1, ![3]⟩
abbrev S1x3x1x1 : Shape := ⟨4, ![1, 3, 1, 1]⟩
abbrev S_ : Shape := ⟨0, ![]⟩
abbrev S64 : Shape := ⟨1, ![64]⟩
abbrev S1 : Shape := ⟨1, ![1]⟩
abbrev S65 : Shape := ⟨1, ![65]⟩
abbrev S16x3 : Shape := ⟨2, ![16, 3]⟩
abbrev S16x3x1x1 : Shape := ⟨4, ![16, 3, 1, 1]⟩
abbrev S16x1x1x1 : Shape := ⟨4, ![16, 1, 1, 1]⟩
abbrev S16x1x1 : Shape := ⟨3, ![16, 1, 1]⟩
abbrev S16x512x512 : Shape := ⟨3, ![16, 512, 512]⟩
abbrev S16x262144 : Shape := ⟨2, ![16, 262144]⟩
abbrev S16x262144x1 : Shape := ⟨3, ![16, 262144, 1]⟩
abbrev S1x1x65 : Shape := ⟨3, ![1, 1, 65]⟩
abbrev S16x262144x65 : Shape := ⟨3, ![16, 262144, 65]⟩
abbrev S16 : Shape := ⟨1, ![16]⟩
abbrev S16x1 : Shape := ⟨2, ![16, 1]⟩
abbrev S1024 : Shape := ⟨1, ![1024]⟩
abbrev S4194304 : Shape := ⟨1, ![4194304]⟩
abbrev S4194304x1 : Shape := ⟨2, ![4194304, 1]⟩
abbrev S16x64 : Shape := ⟨2, ![16, 64]⟩

abbrev nBuf : Space → Nat
  | .hbm => 212
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S3, .f32⟩
  | 3 => ⟨S1x3x1x1, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S64, .f32⟩
  | 12 => ⟨S_, .f32⟩
  | 13 => ⟨S64, .f32⟩
  | 14 => ⟨S64, .f32⟩
  | 15 => ⟨S1, .f32⟩
  | 16 => ⟨S_, .f32⟩
  | 17 => ⟨S64, .f32⟩
  | 18 => ⟨S64, .f32⟩
  | 19 => ⟨S64, .f32⟩
  | 20 => ⟨S64, .f32⟩
  | 21 => ⟨S1, .f32⟩
  | 22 => ⟨S64, .f32⟩
  | 23 => ⟨S64, .f32⟩
  | 24 => ⟨S64, .f32⟩
  | 25 => ⟨S1, .f32⟩
  | 26 => ⟨S65, .f32⟩
  | 27 => ⟨S_, .f32⟩
  | 28 => ⟨S16x3x512x512, .f32⟩
  | 29 => ⟨S16x3x512x512, .f32⟩
  | 30 => ⟨S_, .f32⟩
  | 31 => ⟨S16x3x512x512, .f32⟩
  | 32 => ⟨S16x3x512x512, .f32⟩
  | 33 => ⟨S_, .f32⟩
  | 34 => ⟨S16x3x512x512, .f32⟩
  | 35 => ⟨S16x3x512x512, .f32⟩
  | 36 => ⟨S_, .f32⟩
  | 37 => ⟨S16x3x512x512, .f32⟩
  | 38 => ⟨S16x3x512x512, .f32⟩
  | 39 => ⟨S_, .f32⟩
  | 40 => ⟨S16x3, .f32⟩
  | 41 => ⟨S16x3x1x1, .f32⟩
  | 42 => ⟨S_, .f32⟩
  | 43 => ⟨S16x3x1x1, .f32⟩
  | 44 => ⟨S16x3x1x1, .f32⟩
  | 45 => ⟨S_, .f32⟩
  | 46 => ⟨S16x3, .f32⟩
  | 47 => ⟨S16x3x1x1, .f32⟩
  | 48 => ⟨S_, .f32⟩
  | 49 => ⟨S16x3x1x1, .f32⟩
  | 50 => ⟨S16x3x1x1, .f32⟩
  | 51 => ⟨S16x1x1x1, .f32⟩
  | 52 => ⟨S16x1x1, .f32⟩
  | 53 => ⟨S16x1x1x1, .f32⟩
  | 54 => ⟨S16x1x1, .f32⟩
  | 55 => ⟨S16x1x1x1, .f32⟩
  | 56 => ⟨S16x1x1, .f32⟩
  | 57 => ⟨S16x1x1, .f32⟩
  | 58 => ⟨S16x1x1, .f32⟩
  | 59 => ⟨S16x1x1, .f32⟩
  | 60 => ⟨S16x1x1, .f32⟩
  | 61 => ⟨S16x1x1, .f32⟩
  | 62 => ⟨S16x1x1, .f32⟩
  | 63 => ⟨S16x1x1, .f32⟩
  | 64 => ⟨S16x1x1, .f32⟩
  | 65 => ⟨S_, .f32⟩
  | 66 => ⟨S_, .f32⟩
  | 67 => ⟨S_, .f32⟩
  | 68 => ⟨S_, .f32⟩
  | 69 => ⟨S_, .f32⟩
  | 70 => ⟨S16x1x1, .f32⟩
  | 71 => ⟨S16x1x1x1, .f32⟩
  | 72 => ⟨S_, .f32⟩
  | 73 => ⟨S16x1x1x1, .f32⟩
  | 74 => ⟨S16x1x1x1, .f32⟩
  | 75 => ⟨S16x3x1x1, .f32⟩
  | 76 => ⟨S16x3x1x1, .f32⟩
  | 77 => ⟨S_, .f32⟩
  | 78 => ⟨S16x1x1, .f32⟩
  | 79 => ⟨S16x1x1x1, .f32⟩
  | 80 => ⟨S_, .f32⟩
  | 81 => ⟨S16x1x1x1, .f32⟩
  | 82 => ⟨S16x1x1x1, .f32⟩
  | 83 => ⟨S16x3x1x1, .f32⟩
  | 84 => ⟨S16x3x1x1, .f32⟩
  | 85 => ⟨S16x3x1x1, .f32⟩
  | 86 => ⟨S16x3x1x1, .f32⟩
  | 87 => ⟨S_, .f32⟩
  | 88 => ⟨S_, .f32⟩
  | 89 => ⟨S_, .f32⟩
  | 90 => ⟨S_, .f32⟩
  | 91 => ⟨S_, .f32⟩
  | 92 => ⟨S16x3x512x512, .f32⟩
  | 93 => ⟨S16x3x512x512, .f32⟩
  | 94 => ⟨S_, .f32⟩
  | 95 => ⟨S16x512x512, .f32⟩
  | 96 => ⟨S16x3x512x512, .f32⟩
  | 97 => ⟨S16x3x512x512, .f32⟩
  | 98 => ⟨S_, .f32⟩
  | 99 => ⟨S16x512x512, .f32⟩
  | 100 => ⟨S16x262144, .f32⟩
  | 101 => ⟨S16x262144, .f32⟩
  | 102 => ⟨S16x262144x1, .f32⟩
  | 103 => ⟨S1x1x65, .f32⟩
  | 104 => ⟨S16x262144x65, .f32⟩
  | 105 => ⟨S16x262144x65, .f32⟩
  | 106 => ⟨S16x262144x65, .i1⟩
  | 107 => ⟨S16x262144x65, .i32⟩
  | 108 => ⟨S_, .i32⟩
  | 109 => ⟨S16x262144, .i32⟩
  | 110 => ⟨S_, .i32⟩
  | 111 => ⟨S16x262144, .i32⟩
  | 112 => ⟨S16x262144, .i32⟩
  | 113 => ⟨S16x262144x1, .f32⟩
  | 114 => ⟨S1x1x65, .f32⟩
  | 115 => ⟨S16x262144x65, .f32⟩
  | 116 => ⟨S16x262144x65, .f32⟩
  | 117 => ⟨S16x262144x65, .i1⟩
  | 118 => ⟨S16x262144x65, .i32⟩
  | 119 => ⟨S_, .i32⟩
  | 120 => ⟨S16x262144, .i32⟩
  | 121 => ⟨S_, .i32⟩
  | 122 => ⟨S16x262144, .i32⟩
  | 123 => ⟨S16x262144, .i32⟩
  | 124 => ⟨S_, .i32⟩
  | 125 => ⟨S_, .i32⟩
  | 126 => ⟨S_, .i32⟩
  | 127 => ⟨S16x262144, .i32⟩
  | _ => ⟨S16x3x512x512, .f32⟩

abbrev hbmTy0_1 (i : Nat) : BufTy := match i % 128 with
  | 0 => ⟨S16x262144, .i32⟩
  | 1 => ⟨S_, .i32⟩
  | 2 => ⟨S16x262144, .i32⟩
  | 3 => ⟨S16x262144, .i32⟩
  | 4 => ⟨S_, .i32⟩
  | 5 => ⟨S_, .i32⟩
  | 6 => ⟨S_, .i32⟩
  | 7 => ⟨S16x262144, .i32⟩
  | 8 => ⟨S16x262144, .i32⟩
  | 9 => ⟨S_, .i32⟩
  | 10 => ⟨S16x262144, .i32⟩
  | 11 => ⟨S16x262144, .i32⟩
  | 12 => ⟨S16, .i32⟩
  | 13 => ⟨S_, .i32⟩
  | 14 => ⟨S16, .i32⟩
  | 15 => ⟨S16, .i32⟩
  | 16 => ⟨S16x1, .i32⟩
  | 17 => ⟨S_, .f32⟩
  | 18 => ⟨S1024, .f32⟩
  | 19 => ⟨S16x262144, .i32⟩
  | 20 => ⟨S16x262144, .i32⟩
  | 21 => ⟨S4194304, .i32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i32⟩
  | 28 => ⟨S4194304, .i32⟩
  | 29 => ⟨S4194304x1, .i32⟩
  | 30 => ⟨S_, .f32⟩
  | 31 => ⟨S4194304, .f32⟩
  | 32 => ⟨S1024, .f32⟩
  | 33 => ⟨S16x64, .f32⟩
  | 34 => ⟨S_, .f32⟩
  | 35 => ⟨S1024, .f32⟩
  | 36 => ⟨S16x262144, .i32⟩
  | 37 => ⟨S16x262144, .i32⟩
  | 38 => ⟨S4194304, .i32⟩
  | 39 => ⟨S_, .i32⟩
  | 40 => ⟨S4194304, .i32⟩
  | 41 => ⟨S4194304, .i1⟩
  | 42 => ⟨S_, .i32⟩
  | 43 => ⟨S4194304, .i32⟩
  | 44 => ⟨S4194304, .i32⟩
  | 45 => ⟨S4194304, .i32⟩
  | 46 => ⟨S4194304x1, .i32⟩
  | 47 => ⟨S_, .f32⟩
  | 48 => ⟨S4194304, .f32⟩
  | 49 => ⟨S1024, .f32⟩
  | 50 => ⟨S16x64, .f32⟩
  | 51 => ⟨S_, .f32⟩
  | 52 => ⟨S16x64, .f32⟩
  | 53 => ⟨S16x64, .f32⟩
  | 54 => ⟨S_, .f32⟩
  | 55 => ⟨S16, .f32⟩
  | 56 => ⟨S16x1, .f32⟩
  | 57 => ⟨S_, .f32⟩
  | 58 => ⟨S16x1, .f32⟩
  | 59 => ⟨S16x1, .f32⟩
  | 60 => ⟨S16x64, .f32⟩
  | 61 => ⟨S16x64, .f32⟩
  | 62 => ⟨S_, .f32⟩
  | 63 => ⟨S16x64, .f32⟩
  | 64 => ⟨S16x64, .f32⟩
  | 65 => ⟨S_, .f32⟩
  | 66 => ⟨S16, .f32⟩
  | 67 => ⟨S16x1, .f32⟩
  | 68 => ⟨S_, .f32⟩
  | 69 => ⟨S16x1, .f32⟩
  | 70 => ⟨S16x1, .f32⟩
  | 71 => ⟨S16x64, .f32⟩
  | 72 => ⟨S16x64, .f32⟩
  | 73 => ⟨S16x64, .f32⟩
  | 74 => ⟨S16x64, .f32⟩
  | 75 => ⟨S16x64, .f32⟩
  | 76 => ⟨S16x64, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_cst_2 : Ref sig .tc := ⟨.hbm, 27, rfl⟩
abbrev main_v2 : Ref sig .tc := ⟨.hbm, 28, rfl⟩
abbrev main_v3 : Ref sig .tc := ⟨.hbm, 29, rfl⟩
abbrev main_cst_3 : Ref sig .tc := ⟨.hbm, 30, rfl⟩
abbrev main_v4 : Ref sig .tc := ⟨.hbm, 31, rfl⟩
abbrev main_v5 : Ref sig .tc := ⟨.hbm, 32, rfl⟩
abbrev main_cst_4 : Ref sig .tc := ⟨.hbm, 33, rfl⟩
abbrev main_v6 : Ref sig .tc := ⟨.hbm, 34, rfl⟩
abbrev main_v7 : Ref sig .tc := ⟨.hbm, 35, rfl⟩
abbrev main_cst_5 : Ref sig .tc := ⟨.hbm, 36, rfl⟩
abbrev main_v8 : Ref sig .tc := ⟨.hbm, 37, rfl⟩
abbrev main_v9 : Ref sig .tc := ⟨.hbm, 38, rfl⟩
abbrev main_cst_6 : Ref sig .tc := ⟨.hbm, 39, rfl⟩
abbrev main_v10 : Ref sig .tc := ⟨.hbm, 40, rfl⟩
abbrev main_v11 : Ref sig .tc := ⟨.hbm, 41, rfl⟩
abbrev main_cst_7 : Ref sig .tc := ⟨.hbm, 42, rfl⟩
abbrev main_v12 : Ref sig .tc := ⟨.hbm, 43, rfl⟩
abbrev main_v13 : Ref sig .tc := ⟨.hbm, 44, rfl⟩
abbrev main_cst_8 : Ref sig .tc := ⟨.hbm, 45, rfl⟩
abbrev main_v14 : Ref sig .tc := ⟨.hbm, 46, rfl⟩
abbrev main_v15 : Ref sig .tc := ⟨.hbm, 47, rfl⟩
abbrev main_cst_9 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_10 : Ref sig .tc := ⟨.hbm, 65, rfl⟩
abbrev main_v32 : Ref sig .tc := ⟨.hbm, 66, rfl⟩
abbrev main_cst_11 : Ref sig .tc := ⟨.hbm, 67, rfl⟩
abbrev main_v33 : Ref sig .tc := ⟨.hbm, 68, rfl⟩
abbrev main_cst_12 : Ref sig .tc := ⟨.hbm, 69, rfl⟩
abbrev main_v34 : Ref sig .tc := ⟨.hbm, 70, rfl⟩
abbrev main_v35 : Ref sig .tc := ⟨.hbm, 71, rfl⟩
abbrev main_cst_13 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_14 : Ref sig .tc := ⟨.hbm, 77, rfl⟩
abbrev main_v40 : Ref sig .tc := ⟨.hbm, 78, rfl⟩
abbrev main_v41 : Ref sig .tc := ⟨.hbm, 79, rfl⟩
abbrev main_cst_15 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_16 : Ref sig .tc := ⟨.hbm, 87, rfl⟩
abbrev main_v48 : Ref sig .tc := ⟨.hbm, 88, rfl⟩
abbrev main_cst_17 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_18 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_19 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c : Ref sig .tc := ⟨.hbm, 108, rfl⟩
abbrev main_v65 : Ref sig .tc := ⟨.hbm, 109, rfl⟩
abbrev main_c_20 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_21 : Ref sig .tc := ⟨.hbm, 119, rfl⟩
abbrev main_v74 : Ref sig .tc := ⟨.hbm, 120, rfl⟩
abbrev main_c_22 : Ref sig .tc := ⟨.hbm, 121, rfl⟩
abbrev main_v75 : Ref sig .tc := ⟨.hbm, 122, rfl⟩
abbrev main_v76 : Ref sig .tc := ⟨.hbm, 123, rfl⟩
abbrev main_c_23 : Ref sig .tc := ⟨.hbm, 124, rfl⟩
abbrev main_c_24 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_v77 : Ref sig .tc := ⟨.hbm, 131, rfl⟩
abbrev main_c_25 : Ref sig .tc := ⟨.hbm, 132, rfl⟩
abbrev main_c_26 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_v78 : Ref sig .tc := ⟨.hbm, 139, rfl⟩
abbrev main_v79 : Ref sig .tc := ⟨.hbm, 140, rfl⟩
abbrev main_c_27 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_28 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_c_29 : Ref sig .tc := ⟨.hbm, 150, rfl⟩
abbrev main_v87 : Ref sig .tc := ⟨.hbm, 151, rfl⟩
abbrev main_v88 : Ref sig .tc := ⟨.hbm, 152, rfl⟩
abbrev main_c_30 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_31 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_cst_32 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_c_33 : Ref sig .tc := ⟨.hbm, 167, rfl⟩
abbrev main_v100 : Ref sig .tc := ⟨.hbm, 168, rfl⟩
abbrev main_v101 : Ref sig .tc := ⟨.hbm, 169, rfl⟩
abbrev main_c_34 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_35 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_36 : Ref sig .tc := ⟨.hbm, 179, rfl⟩
abbrev main_v109 : Ref sig .tc := ⟨.hbm, 180, rfl⟩
abbrev main_v110 : Ref sig .tc := ⟨.hbm, 181, rfl⟩
abbrev main_cst_37 : Ref sig .tc := ⟨.hbm, 182, rfl⟩
abbrev main_v111 : Ref sig .tc := ⟨.hbm, 183, rfl⟩
abbrev main_v112 : Ref sig .tc := ⟨.hbm, 184, rfl⟩
abbrev main_cst_38 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_39 : Ref sig .tc := ⟨.hbm, 190, rfl⟩
abbrev main_v117 : Ref sig .tc := ⟨.hbm, 191, rfl⟩
abbrev main_v118 : Ref sig .tc := ⟨.hbm, 192, rfl⟩
abbrev main_cst_40 : Ref sig .tc := ⟨.hbm, 193, rfl⟩
abbrev main_v119 : Ref sig .tc := ⟨.hbm, 194, rfl⟩
abbrev main_v120 : Ref sig .tc := ⟨.hbm, 195, rfl⟩
abbrev main_cst_41 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_42 : Ref sig .tc := ⟨.hbm, 205, rfl⟩
abbrev main_v129 : Ref sig .tc := ⟨.hbm, 206, rfl⟩
abbrev main_cst_43 : Ref sig .tc := ⟨.hbm, 207, rfl⟩
abbrev main_v130 : Ref sig .tc := ⟨.hbm, 208, rfl⟩
abbrev main_v131 : Ref sig .tc := ⟨.hbm, 209, rfl⟩
abbrev main_cst_44 : Ref sig .tc := ⟨.hbm, 210, rfl⟩
abbrev main_v132 : Ref sig .tc := ⟨.hbm, 211, rfl⟩

abbrev nD : Nat := 1
abbrev τ : Topo := Topo.v7x

variable {F : FTy → Type} [FloatOps F]
-- ==== Proof.Tile.lean ====
/-
  The SparseCore task of `_sc_body` written by its structure — zero the histogram, start four chunks' copies, then chunk
  by chunk wait, accumulate and start the copies of the chunk four ahead, and at the end store and copy out — over a
  symbolic chunk, with the printed task equal to it. What the later modules prove about a task they prove of this text.
-/
module

public import proofs.«01_k».proof.Defs
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen Cert.KernelIdeal.Facts

open Idealize.ShloMosaic
open Idealize.SL.Sem

variable {F : FTy → Type} [FloatOps F]

/-- A program of the task at grid point `i`. -/
abbrev TP (F : FTy → Type) (i : grid0.Coords) (α : Type) : Type 1 :=
  Prog (TpuEff nD τ sig (Elt F) Λ₀ (.scVector ((i 0).castLE hcore0) ((i 1).castLE hsub0))) α

/-- Buffer `ch` of ring set `s`. -/
def ring : Fin 4 → Fin 3 → Memref sig .scVector .vmem S16x512 .f32
  | 0, 0 => Memref.whole cc0_scratch0 | 0, 1 => Memref.whole cc0_scratch1 | 0, 2 => Memref.whole cc0_scratch2
  | 1, 0 => Memref.whole cc0_scratch3 | 1, 1 => Memref.whole cc0_scratch4 | 1, 2 => Memref.whole cc0_scratch5
  | 2, 0 => Memref.whole cc0_scratch6 | 2, 1 => Memref.whole cc0_scratch7 | 2, 2 => Memref.whole cc0_scratch8
  | 3, 0 => Memref.whole cc0_scratch9 | 3, 1 => Memref.whole cc0_scratch10 | 3, 2 => Memref.whole cc0_scratch11

theorem ring_whole (s : Fin 4) (ch : Fin 3) : (ring s ch).IsWhole := by
  fin_cases s <;> fin_cases ch <;> exact Memref.isWhole_whole _

/-- Ring set `s`'s semaphore. -/
def rsem : Fin 4 → DmaSem sig
  | 0 => cc0_scratch14.sem | 1 => cc0_scratch15.sem | 2 => cc0_scratch16.sem | 3 => cc0_scratch17.sem

/-- The histogram scratch, a row of 16 lanes for each of 64 bins. -/
abbrev hist : Memref sig .scVector .vmem S1024 .f32 := Memref.whole cc0_scratch12

/-- The scratch of the three channels' sums by lane. -/
abbrev sumsM : Memref sig .scVector .vmem S48 .f32 := Memref.whole cc0_scratch13

/-- The set chunk `c` uses. -/
abbrev setOf (c : Fin 16) : Fin 4 := ⟨c.val % 4, Nat.mod_lt _ (by decide)⟩

/-- The rows of channel `ch` that chunk `c` of task `i` fetches. -/
abbrev srcAt (src : Memref sig .scVector .hbm S48x512x512 .f32) (i : grid0.Coords) (c : Fin 16) (ch : Fin 3) :
    Memref sig .scVector .hbm S16x512 .f32 :=
  (src.slice (Rect.unit (s := S48x512x512) (k0_off1 i (BitVec.ofNat 32 ch.val) (BitVec.ofNat 32 (16 * c.val))) S1x16x512.size
    (k0_off1_inb i ch c)) (fun _ => rfl)).squeeze S16x512 squeezes_S1x16x512_S16x512

/-- Start the copy of channel `ch` of chunk `c`. -/
def issue (src : Memref sig .scVector .hbm S48x512x512 .f32) (i : grid0.Coords) (c : Fin 16) (ch : Fin 3) : TP F i PUnit :=
  Prog.lift (.enqueueDma (srcAt src i c ch) (.here (ring (setOf c) ch)) (.dma (rsem (setOf c)))
    ((View.wordExact_bits rfl).reshape _ _) (ring_whole (setOf c) ch).wordExact ⟨Or.inl rfl, trivial⟩)

/-- Start chunk `c`'s three copies. -/
def issue3 (src : Memref sig .scVector .hbm S48x512x512 .f32) (i : grid0.Coords) (c : Fin 16) : TP F i PUnit := do
  issue src i c 0
  issue src i c 1
  issue src i c 2

/-- Wait for one of chunk `c`'s copies. -/
def await (src : Memref sig .scVector .hbm S48x512x512 .f32) (i : grid0.Coords) (c : Fin 16) (ch : Fin 3) : TP F i PUnit :=
  Prog.lift (.waitDma2 (rsem (setOf c)) (srcAt src i c ch) (ring (setOf c) ch)
    ((View.wordExact_bits rfl).reshape _ _) (ring_whole (setOf c) ch).wordExact)

/-- Wait for chunk `c`'s three copies. -/
def await3 (src : Memref sig .scVector .hbm S48x512x512 .f32) (i : grid0.Coords) (c : Fin 16) : TP F i PUnit := do
  await src i c 0
  await src i c 1
  await src i c 2

/-- The three running sums, one lane vector per channel. -/
abbrev Sums (F : FTy → Type) : Type := FVec F S16 .f32 × FVec F S16 .f32 × FVec F S16 .f32

/-- The lane numbers. -/
abbrev lanes : IVec S16 32 := iota .scVector S16 32 [0] iota_S16_d0_w32_scVector

/-- One trip of the loop over a chunk: load sixteen pixels, add one at each lane's bin, add to the sums. -/
def trip (i : grid0.Coords) (s : Fin 4) (k : Fin k0_t1_loop.trips) (acc : Sums F) : TP F i (Sums F) := do
  let r ← Prog.lift (.load (ring s 0) (Rect.unit (s := S16x512) (k0_off2 k) S1x16.size (k0_off2_inb k)).toLoadRect (View.loadsAt_vmem h_S1x16))
  let g ← Prog.lift (.load (ring s 1) (Rect.unit (s := S16x512) (k0_off2 k) S1x16.size (k0_off2_inb k)).toLoadRect (View.loadsAt_vmem h_S1x16))
  let b ← Prog.lift (.load (ring s 2) (Rect.unit (s := S16x512) (k0_off2 k) S1x16.size (k0_off2_inb k)).toLoadRect (View.loadsAt_vmem h_S1x16))
  have hw : k0_chk1 (k0_pay131 lanes (k0_pay4 r g b)) := (← Prog.lift (TpuEff.assume (k0_chk1 (k0_pay131 lanes (k0_pay4 r g b))) (k0_chk1.dec _))).down
  SparseCore.vectorStoreIdx hist ![k0_pay131 lanes (k0_pay4 r g b)] k0_pay130 (fun _ => 1#1) true
    (k0_idx1_inb _ hw) (View.stores_vmem_bits_univ h_S1024 rfl)
  pure (k0_pay132 acc.1 (k0_pay1 r), k0_pay132 acc.2.1 (k0_pay2 g), k0_pay132 acc.2.2 (k0_pay3 b))

/-- Accumulate over one chunk's 512 lane vectors. -/
def accum (i : grid0.Coords) (s : Fin 4) (acc : Sums F) : TP F i (Sums F) :=
  Scf.Loop.for k0_t1_loop k0_t1_ok acc (trip i s)

/-- Start the copies of the chunk four ahead, where there is one. -/
def refill (src : Memref sig .scVector .hbm S48x512x512 .f32) (i : grid0.Coords) (c : Fin 16) : TP F i PUnit :=
  if h : c.val + 4 < 16 then issue3 src i ⟨c.val + 4, h⟩ else pure ⟨⟩

/-- The chunks of `cs` in turn. -/
def chunks (src : Memref sig .scVector .hbm S48x512x512 .f32) (i : grid0.Coords) : List (Fin 16) → Sums F → TP F i (Sums F)
  | [], acc => pure acc
  | c :: cs, acc => do
    await3 src i c
    let acc ← accum i (setOf c) acc
    refill src i c
    chunks src i cs acc

/-- Store zero over bin `j`'s row. -/
def zero1 (i : grid0.Coords) (j : Fin 64) : TP F i PUnit := do
  let _v ← Prog.lift (.load hist (Rect.unit (s := S1024) ![16 * j.val] S16.size (by intro a; fin_cases a; show 16 * j.val + 16 ≤ 1024; omega)).toLoadRect (View.loadsAt_vmem h_S16))
  Prog.lift (.store hist (Rect.unit (s := S1024) ![16 * j.val] S16.size (by intro a; fin_cases a; show 16 * j.val + 16 ≤ 1024; omega)) k0_pay129 Finset.univ (View.stores_vmem_bits_univ h_S16 rfl) (.inl rfl))

def zeros (i : grid0.Coords) : List (Fin 64) → TP F i PUnit
  | [] => pure ⟨⟩
  | j :: js => do zero1 i j; zeros i js

/-- Store channel `ch`'s sums. -/
def putSum (i : grid0.Coords) (ch : Fin 3) (v : FVec F S16 .f32) : TP F i PUnit := do
  let _v ← Prog.lift (.load sumsM (Rect.unit (s := S48) ![16 * ch.val] S16.size (by intro a; fin_cases a; show 16 * ch.val + 16 ≤ 48; omega)).toLoadRect (View.loadsAt_vmem h_S16))
  Prog.lift (.store sumsM (Rect.unit (s := S48) ![16 * ch.val] S16.size (by intro a; fin_cases a; show 16 * ch.val + 16 ≤ 48; omega)) v Finset.univ (View.stores_vmem_bits_univ h_S16 rfl) (.inl rfl))

/-- Task `i`'s part of a histogram result. -/
abbrev histOut (o : Memref sig .scVector .hbm S32768 .f32) (i : grid0.Coords) : Memref sig .scVector .hbm S1024 .f32 :=
  o.slice (Rect.unit (s := S32768) (k0_off18 i) S1024.size (k0_off18_inb i)) (fun _ => rfl)

/-- Task `i`'s part of a sums result. -/
abbrev sumsOut (o : Memref sig .scVector .hbm S1536 .f32) (i : grid0.Coords) : Memref sig .scVector .hbm S48 .f32 :=
  o.slice (Rect.unit (s := S1536) (k0_off19 i) S48.size (k0_off19_inb i)) (fun _ => rfl)

/-- Copy the histogram out and wait. -/
def putHist (i : grid0.Coords) (o : Memref sig .scVector .hbm S32768 .f32) (sm : DmaSem sig) : TP F i PUnit := do
  Prog.lift (.enqueueDma hist (.here (histOut o i)) (.dma sm) (Memref.isWhole_whole _).wordExact (View.wordExact_bits rfl) ⟨Or.inl rfl, trivial⟩)
  Prog.lift (.waitDma2 sm hist (histOut o i) (Memref.isWhole_whole _).wordExact (View.wordExact_bits rfl))

/-- Copy the sums out and wait. -/
def putSums (i : grid0.Coords) (o : Memref sig .scVector .hbm S1536 .f32) (sm : DmaSem sig) : TP F i PUnit := do
  Prog.lift (.enqueueDma sumsM (.here (sumsOut o i)) (.dma sm) (Memref.isWhole_whole _).wordExact (View.wordExact_bits rfl) ⟨Or.inl rfl, trivial⟩)
  Prog.lift (.waitDma2 sm sumsM (sumsOut o i) (Memref.isWhole_whole _).wordExact (View.wordExact_bits rfl))

/-- One image: histogram and sums of `src`'s rows of this task, written to `ho` and `so`. -/
def process (i : grid0.Coords) (src : Memref sig .scVector .hbm S48x512x512 .f32) (ho : Memref sig .scVector .hbm S32768 .f32)
    (so : Memref sig .scVector .hbm S1536 .f32) (s0 s1 : DmaSem sig) : TP F i PUnit := do
  zeros i (List.finRange 64)
  issue3 src i 0
  issue3 src i 1
  issue3 src i 2
  issue3 src i 3
  let acc ← chunks src i (List.finRange 16) (k0_pay129, k0_pay129, k0_pay129)
  putSum i 0 acc.1
  putSum i 1 acc.2.1
  putSum i 2 acc.2.2
  putHist i ho s0
  putSums i so s1

/-- The whole task. -/
def task (i : grid0.Coords) : TP F i PUnit := do
  process i (Memref.whole main_v0_scv) (Memref.whole main_v2_0_scv) (Memref.whole main_v2_2_scv) cc0_scoped0.sem cc0_scoped1.sem
  process i (Memref.whole main_v1_scv) (Memref.whole main_v2_1_scv) (Memref.whole main_v2_3_scv) cc0_scoped2.sem cc0_scoped3.sem

end Cert.Proof.Tile

end
-- ==== Proof.TileBase.lean ====
/-
  What the proofs about the SparseCore task are stated over: the program as the launch theorem sees it, the ghost state
  (the handshakes' rounds, the pipeline's and the counters of the copies), a memref held at a known reading, and the values the task
  computes, as recursions over the trips of a chunk and over the chunks.
-/
module

public import proofs.«01_k».proof.Proof.Tile
public import Idealize.ShloMosaic.Lib.Pipeline.Kit

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and the ghost state -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The counters of the copies. -/
abbrev EC : UEmb Counters (MT nD τ sig (HIx 1) (Elt F) ℕ UU ℕ) := countersEmb (U := UU)

/-- The thread of task `i` on device `d`. -/
abbrev thr (d : Dev nD) (i : grid0.Coords) : Thread nD τ := V d ((i 0).castLE hcore0) ((i 1).castLE hsub0)

variable [FloatOps F]

/-- `M`'s elements held in full, reading `v`. -/
def Held (t : Thread nD τ) {sp : Space} {s : Shape} {e : EltTy} (M : Memref sig t.2.kind sp s e) (v : Vec F s e) : sProp 𝕄 :=
  iprop(∃ f, ⌜M.view.read (Elt F) f = v⌝ ∗ M.view.loc t ↦[M.view.set]{fullShare} f)

instance Held_storable (t : Thread nD τ) {sp : Space} {s : Shape} {e : EltTy} (M : Memref sig t.2.kind sp s e) (v : Vec F s e) :
    Storable (upEmb : UEmb _ 𝕄) (Held t M v) := by unfold Held; infer_instance

/-- What is owed after some waits: only waits at the index `none` have been added to `W`. -/
def Owes (t : Thread nD τ) (O : CellTallies nD τ sig (HIx 1)) (W : Waits sig (HIx 1)) : sProp 𝕄 :=
  iprop(∃ W', ⌜∀ p ∈ W', p ∈ W ∨ p.2 = none⌝ ∗ owes t O W')

/-- The weakest precondition of a task's program at task `i`. -/
abbrev wpT (d : Dev nD) (i : grid0.Coords) {α : Type} (p : TP F i α) (Q : α → sProp 𝕄) : sProp 𝕄 :=
  wp frame (wpE (defs₀ (F := F)) 𝒱₀ (thr d i) none) Set.univ p Q

/-! ## The values -/

/-- A bin number clipped to 0..63. -/
def clip63 (w : BitVec 32) : BitVec 32 := IntOp.minsi (IntOp.maxsi w 0#32) 63#32

theorem clip63_lt (w : BitVec 32) : (clip63 w).toNat < 64 := by
  unfold clip63 IntOp.minsi IntOp.maxsi
  have h0 : (0#32).slt w = decide ((0 : Int) < w.toInt) := by simp [BitVec.slt]
  rw [h0]
  split
  · rename_i h
    split
    · rename_i h'
      simp only [BitVec.slt, decide_eq_true_eq] at h h'
      have e := BitVec.toInt_eq_toNat_cond w
      have e63 : (63#32 : BitVec 32).toInt = 63 := by decide
      have := w.isLt
      rw [e63] at h'
      split at e <;> omega
    · decide
  · decide

/-- Where lane `x` of a trip adds one: its bin's row at its lane. -/
theorem pay131_toNat (w : IVec S16 32) (x : S16.Idx) :
    ((k0_pay131 lanes w) x).toNat = (clip63 (w x)).toNat * 16 + (x 0).val := by
  have hl : (lanes x : BitVec 32) = BitVec.ofNat 32 (x 0).val := by
    simp [lanes, iota]
  have hx : (x 0).val < 16 := (x 0).isLt
  have e : (k0_pay131 lanes w) x = clip63 (w x) * 16#32 + lanes x := rfl
  have h := clip63_lt (w x)
  rw [e, hl, BitVec.toNat_add, BitVec.toNat_mul, BitVec.toNat_ofNat, BitVec.toNat_ofNat]
  omega

/-- The bin index is clipped to 0..63 before it is scaled, so the check always passes. -/
theorem chk_all (w : IVec S16 32) : k0_chk1 (k0_pay131 lanes w) := by
  intro a x
  obtain rfl : a = 0 := Subsingleton.elim _ _
  show ((k0_pay131 lanes w) x).toNat < 1024
  have hx : (x 0).val < 16 := (x 0).isLt
  have h := clip63_lt (w x)
  rw [pay131_toNat]
  omega

/-- The sixteen pixels trip `k` loads of a buffer reading `v`. -/
def lv (v : Vec F S16x512 .f32) (k : Fin k0_t1_loop.trips) : Vec F S1x16 .f32 :=
  fun x => v ((Rect.unit (s := S16x512) (k0_off2 k) S1x16.size (k0_off2_inb k)).toLoadRect.idx x)

/-- A task's running state: the histogram by bin and lane, and the three sums by lane. -/
abbrev St (F : FTy → Type) : Type := Vec F S1024 .f32 × Sums F

/-- One trip's step. -/
def stepV (vr vg vb : Vec F S16x512 .f32) (k : Fin k0_t1_loop.trips) (st : St F) : St F :=
  (storeIdx st.1 ![k0_pay131 lanes (k0_pay4 (lv vr k) (lv vg k) (lv vb k))] k0_pay130 (fun _ => 1#1) true (k0_idx1_inb _ (chk_all _)),
    k0_pay132 st.2.1 (k0_pay1 (lv vr k)), k0_pay132 st.2.2.1 (k0_pay2 (lv vg k)), k0_pay132 st.2.2.2 (k0_pay3 (lv vb k)))

/-- The first `n` trips over a chunk whose channels read `vr`, `vg`, `vb`. -/
def runV (vr vg vb : Vec F S16x512 .f32) : ℕ → St F → St F
  | 0, st => st
  | n + 1, st => if h : n < k0_t1_loop.trips then stepV vr vg vb ⟨n, h⟩ (runV vr vg vb n st) else runV vr vg vb n st

/-- Channel `ch` of chunk `c`, read off the source's contents. -/
def rd (d : Dev nD) (src : Memref sig .scVector .hbm S48x512x512 .f32) (i : grid0.Coords) (c : Fin 16) (ch : Fin 3)
    (X : Buf (Elt F) (src.view.loc (thr d i))) : Vec F S16x512 .f32 :=
  (srcAt src i c ch).view.read (Elt F) X

/-- One chunk's step. -/
def chunkV (d : Dev nD) (src : Memref sig .scVector .hbm S48x512x512 .f32) (i : grid0.Coords)
    (X : Buf (Elt F) (src.view.loc (thr d i))) (st : St F) (c : Fin 16) : St F :=
  runV (rd d src i c 0 X) (rd d src i c 1 X) (rd d src i c 2 X) k0_t1_loop.trips st

/-- All sixteen chunks from zeros. -/
def procV (d : Dev nD) (src : Memref sig .scVector .hbm S48x512x512 .f32) (i : grid0.Coords)
    (X : Buf (Elt F) (src.view.loc (thr d i))) : St F :=
  (List.finRange 16).foldl (chunkV d src i X) (fun _ => Scalar.ofBits .f32 0x00000000#32, k0_pay129, k0_pay129, k0_pay129)

/-- The lane of position `n`. -/
def lane (n : ℕ) : S16.Idx := fun a => ⟨n % 16, by obtain rfl : a = 0 := Subsingleton.elim _ _; exact Nat.mod_lt _ (by decide)⟩

/-- The three sums one after another. -/
def sums48 (s : Sums F) : Vec F S48 .f32 := fun x =>
  if (x 0).val < 16 then s.1 (lane (x 0).val)
  else if (x 0).val < 32 then s.2.1 (lane (x 0).val) else s.2.2 (lane (x 0).val)

end Cert.Proof.Tile

end
-- ==== Proof.TileRun.lean ====
/-
  What each piece of the SparseCore task does to the memory it holds, with the values: zeroing the histogram, one trip,
  one chunk, starting a chunk's copies, waiting for them.
-/
module

public import proofs.«01_k».proof.Proof.TileBase
public import Idealize.ShloMosaic.Lib.WritesUnit

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem ret_bind' {E : Type → Type} {α β : Type} (a : α) (k : α → Prog E β) : (Prog.ret a).bind k = k a := rfl

variable (d : Dev nD) (i : grid0.Coords)

/-- A piece, then what follows it. -/
theorem wpT_seq {α β : Type} {p : TP F i α} {q : α → TP F i β} {Q : β → sProp 𝕄} :
    wpT d i p (fun a => wpT d i (q a) Q) ⊢ wpT d i (p >>= q) Q := by
  unfold wpT; rw [wp_bind]

theorem wpT_pure {α : Type} (a : α) (Q : α → sProp 𝕄) : Q a ⊢ wpT d i (pure a) Q := by
  unfold wpT; rw [wp_pure]
  exact fupd_intro

/-! ## Zeroing the histogram -/

/-- Sixteen elements stored at a multiple of sixteen, read back. -/
theorem read_row {n : ℕ} (v : View sig .scVector .vmem ⟨1, ![n]⟩ .f32) (j : ℕ)
    (inb : ∀ a, (![16 * j] : Fin 1 → ℕ) a + S16.size a ≤ (⟨1, ![n]⟩ : Shape).size a) (f : v.ty.Contents (Elt F)) (w : Vec F S16 .f32)
    (x : (⟨1, ![n]⟩ : Shape).Idx) :
    v.read (Elt F) ((v.slice (Rect.unit (s := ⟨1, ![n]⟩) ![16 * j] S16.size inb)).write (Elt F) f w Finset.univ) x
      = if (x 0).val / 16 = j then w (lane (x 0).val) else v.read (Elt F) f x := by
  split
  · rename_i h
    exact View.read_writes_cons_unit_of_mem (v := v) (f := f) inb w [] x (lane (x 0).val) rfl (fun a => by
      obtain rfl : a = 0 := Subsingleton.elim _ _
      show (x 0).val = 16 * j + (x 0).val % 16
      omega)
  · rename_i h
    exact View.read_writes_cons_unit_of_not_mem (v := v) (f := f) inb w [] x rfl 0 (by
      show (x 0).val < 16 * j ∨ 16 * j + 16 ≤ (x 0).val
      omega)

theorem zero1_wp (j : Fin 64) (R : Fin 1024 → Prop) (Q : PUnit → sProp 𝕄)  :
    iprop((∃ f, ⌜∀ x : S1024.Idx, R (x 0) → hist.view.read (Elt F) f x = Scalar.ofBits .f32 0x00000000#32⌝ ∗ hist.view.loc (thr d i) ↦[hist.view.set]{fullShare} f)
      ∗ ((∃ f, ⌜∀ x : S1024.Idx, (R (x 0) ∨ (x 0).val / 16 = j.val) → hist.view.read (Elt F) f x = Scalar.ofBits .f32 0x00000000#32⌝ ∗ hist.view.loc (thr d i) ↦[hist.view.set]{fullShare} f) -∗ Q ⟨⟩))
      ⊢ wpT d i (zero1 (F := F) i j) Q := by
  iintro ⟨⟨%f, %hf, Hh⟩, Hk⟩
  unfold zero1
  simp only [Prog.lift, Prog.bind_op, Prog.bind_ret, Prog.pure_eq_ret]
  have hb : ∀ a, (![16 * j.val] : Fin 1 → ℕ) a + S16.size a ≤ S1024.size a := by
    intro a; fin_cases a; show 16 * j.val + 16 ≤ 1024; omega
  have hu : hist.view.set = Finset.univ := View.set_whole _
  iapply (wp_load 𝒱₀ (thr d i) none Set.univ (m := hist) (S := hist.view.set) (by rw [hu]; exact Finset.subset_univ _)) $$ Hh; iintro Hh
  iapply (wp_store 𝒱₀ (thr d i) none Set.univ (m := hist) (r := Rect.unit (s := S1024) ![16 * j.val] S16.size hb) (Mk := Finset.univ) (S := hist.view.set) (by rw [hu]; exact Finset.subset_univ _)) $$ Hh; iintro Hh
  simp only [ret_bind', wp_ret]
  imodintro
  iapply Hk
  iexists _
  isplitr; swap; · iexact Hh
  ipureintro
  intro x hx
  refine (read_row (n := 1024) hist.view j.val _ f _ x).trans ?_
  split
  · rfl
  · rename_i h; exact hf x (hx.resolve_right h)

theorem zeros_wp (Q : PUnit → sProp 𝕄) : ∀ js : List (Fin 64),
    iprop((∃ f, ⌜∀ x : S1024.Idx, (∀ j ∈ js, (x 0).val / 16 ≠ j.val) → hist.view.read (Elt F) f x = Scalar.ofBits .f32 0x00000000#32⌝ ∗ hist.view.loc (thr d i) ↦[hist.view.set]{fullShare} f)
      ∗ (Held (thr d i) hist (fun _ => Scalar.ofBits .f32 0x00000000#32) -∗ Q ⟨⟩))
      ⊢ wpT d i (zeros (F := F) i js) Q
  | [] => by
    iintro ⟨⟨%f, %hf, Hh⟩, Hk⟩
    iapply wpT_pure
    iapply Hk
    unfold Held
    iexists f
    isplitr; swap; · iexact Hh
    ipureintro
    funext x
    exact hf x (fun j hj => absurd hj (by simp))
  | j :: js => by
    iintro ⟨Hh, Hk⟩
    iapply wpT_seq
    iapply (zero1_wp d i j (fun y => ∀ j' ∈ j :: js, y.val / 16 ≠ j'.val))
    isplitl [Hh]; · iexact Hh
    iintro ⟨%f, %hf, Hh⟩
    iapply (zeros_wp Q js)
    isplitl [Hh]
    · iexists f
      isplitr; swap; · iexact Hh
      ipureintro
      intro x hx
      refine hf x ?_
      by_cases e : (x 0).val / 16 = j.val
      · exact Or.inr e
      · refine Or.inl fun j' hj' => ?_
        rcases List.mem_cons.mp hj' with rfl | hm
        · exact e
        · exact hx j' hm
    · iexact Hk

/-! ## One trip, one chunk -/

/-- The three channels' buffers of a ring set, reading `vr`, `vg`, `vb`. -/
def Rings (s : Fin 4) (vr vg vb : Vec F S16x512 .f32) : sProp 𝕄 :=
  iprop(Held (thr d i) (ring s 0) vr ∗ Held (thr d i) (ring s 1) vg ∗ Held (thr d i) (ring s 2) vb)

theorem ring_set (s : Fin 4) (ch : Fin 3) : (ring s ch).view.set = Finset.univ := by
  fin_cases s <;> fin_cases ch <;> exact View.set_whole _

/-- A trip's load from a ring buffer. -/
theorem load_ring (s : Fin 4) (ch : Fin 3) (k : Fin k0_t1_loop.trips) (v : Vec F S16x512 .f32) {α : Type}
    (kk : Vec F S1x16 .f32 → TP F i α) (Q : α → sProp 𝕄) :
    iprop(Held (thr d i) (ring s ch) v ∗ (Held (thr d i) (ring s ch) v -∗ wpT d i (kk (lv v k)) Q))
      ⊢ wpT d i (Prog.op (.load (ring s ch) (Rect.unit (s := S16x512) (k0_off2 k) S1x16.size (k0_off2_inb k)).toLoadRect (View.loadsAt_vmem h_S1x16)) kk) Q := by
  unfold Held
  iintro ⟨⟨%f, %hf, H⟩, Hk⟩
  iapply (wp_load 𝒱₀ (thr d i) none Set.univ (m := ring s ch) (S := (ring s ch).view.set) (by rw [ring_set]; exact Finset.subset_univ _)) $$ H
  iintro H
  rw [show (ring s ch).view.readAt (Elt F) (Rect.unit (s := S16x512) (k0_off2 k) S1x16.size (k0_off2_inb k)).toLoadRect f = lv v k from
    funext fun x => (View.readAt_apply ..).trans (by rw [hf]; rfl)]
  iapply Hk
  iexists f
  isplitr; · ipureintro; exact hf
  iexact H

theorem hist_access (f : Buf (Elt F) (hist.view.loc (thr d i))) :
    (hist.view.loc (thr d i) ↦[hist.view.set]{fullShare} f : sProp 𝕄)
      = ((hist.access (.whole S1024)).loc (thr d i) ↦[(hist.access (.whole S1024)).set]{fullShare} f) :=
  congrArg (fun S : Finset S1024.Idx => (hist.view.loc (thr d i) ↦[S]{fullShare} f : sProp 𝕄))
    ((View.set_whole _).trans (Memref.set_access_whole cc0_scratch12).symm)

theorem trip_wp (s : Fin 4) (k : Fin k0_t1_loop.trips) (vr vg vb : Vec F S16x512 .f32) (h : Vec F S1024 .f32) (acc : Sums F)
    (Q : Sums F → sProp 𝕄) :
    iprop((Rings d i s vr vg vb ∗ Held (thr d i) hist h)
      ∗ ((Rings d i s vr vg vb ∗ Held (thr d i) hist (stepV vr vg vb k (h, acc)).1) -∗ Q (stepV vr vg vb k (h, acc)).2))
      ⊢ wpT d i (trip i s k acc) Q := by
  unfold Rings
  dsimp only [stepV]
  iintro ⟨⟨⟨H0, H1, H2⟩, Hh⟩, Hk⟩
  unfold trip
  simp only [Prog.lift, Prog.bind_op, Prog.bind_ret, Prog.pure_eq_ret]
  iapply (load_ring d i s 0 k vr)
  isplitl [H0]; · iexact H0
  iintro H0
  iapply (load_ring d i s 1 k vg)
  isplitl [H1]; · iexact H1
  iintro H1
  iapply (load_ring d i s 2 k vb)
  isplitl [H2]; · iexact H2
  iintro H2
  unfold wpT
  rw [wp_assume_of _ _ _ _ (chk_all _)]
  unfold Held
  icases Hh with ⟨%f, %hf, Hh⟩
  obtain rfl := hf
  ihave Hh' := (Entails.of_eq (hist_access d i f)) $$ Hh
  iapply (SparseCore.wp_vectorStoreIdx 𝒱₀ (thr d i) none Set.univ (base := hist) (f := f)) $$ Hh'
  iintro Hh
  rw [wp_ret]
  imodintro
  iapply Hk
  isplitl [H0 H1 H2]
  · isplitl [H0]; · iexact H0
    isplitl [H1]; · iexact H1
    iexact H2
  · iexists _
    isplitr; swap
    · iapply (Entails.of_eq (hist_access d i _).symm) $$ Hh
    · ipureintro
      refine (Memref.write_access_whole_univ _ cc0_scratch12 _ _).trans ?_
      have e : (hist.access (.whole S1024)).read (Elt F) f = hist.view.read (Elt F) f := Memref.read_access_whole (Elt F) cc0_scratch12 f
      rw [e]

theorem accum_wp (s : Fin 4) (vr vg vb : Vec F S16x512 .f32) (h : Vec F S1024 .f32) (acc : Sums F) (Q : Sums F → sProp 𝕄) :
    iprop((Rings d i s vr vg vb ∗ Held (thr d i) hist h)
      ∗ ((Rings d i s vr vg vb ∗ Held (thr d i) hist (runV vr vg vb k0_t1_loop.trips (h, acc)).1)
          -∗ Q (runV vr vg vb k0_t1_loop.trips (h, acc)).2))
      ⊢ wpT d i (accum i s acc) Q := by
  have hbody : ∀ (k : Fin k0_t1_loop.trips) (a : Sums F),
      iprop(⌜a = (runV vr vg vb k.val (h, acc)).2⌝ ∗ Rings d i s vr vg vb ∗ Held (thr d i) hist (runV vr vg vb k.val (h, acc)).1)
        ⊢ wpT d i (trip i s k a) fun a' => iprop(⌜a' = (runV vr vg vb (k.val + 1) (h, acc)).2⌝ ∗ Rings d i s vr vg vb
          ∗ Held (thr d i) hist (runV vr vg vb (k.val + 1) (h, acc)).1) := by
    intro k a
    iintro ⟨%ha, H⟩
    subst ha
    have e : runV vr vg vb (k.val + 1) (h, acc) = stepV vr vg vb k (runV vr vg vb k.val (h, acc)) := dif_pos k.isLt
    rw [e]
    iapply (trip_wp d i s k vr vg vb)
    isplitl [H]; · iexact H
    iintro H
    isplitr; · ipureintro; rfl
    iexact H
  iintro ⟨H, Hk⟩
  unfold accum
  iapply (Scf.wp_for frame (wpE (defs₀ (F := F)) 𝒱₀ (thr d i) none) Set.univ _ _ _ k0_t1_ok acc (trip i s)
    (fun n a => iprop(⌜a = (runV vr vg vb n (h, acc)).2⌝ ∗ Rings d i s vr vg vb ∗ Held (thr d i) hist (runV vr vg vb n (h, acc)).1)) hbody)
  · isplitl [H]
    · isplitr; · ipureintro; rfl
      iexact H
    · iintro %a ⟨%ha, H⟩
      subst ha
      iapply Hk
      iexact H

/-! ## Storing the sums, copying out -/

theorem putSum_wp (ch : Fin 3) (v : FVec F S16 .f32) (w : Vec F S48 .f32) (hw : ∀ x, (x 0).val / 16 = ch.val → v (lane (x 0).val) = w x)
    (P P' : ℕ → Prop) (hP : ∀ n, P' n → P n ∨ n = ch.val) (Q : PUnit → sProp 𝕄) :
    iprop((∃ f, ⌜∀ x : S48.Idx, P ((x 0).val / 16) → sumsM.view.read (Elt F) f x = w x⌝ ∗ sumsM.view.loc (thr d i) ↦[sumsM.view.set]{fullShare} f)
      ∗ ((∃ f, ⌜∀ x : S48.Idx, P' ((x 0).val / 16) → sumsM.view.read (Elt F) f x = w x⌝ ∗ sumsM.view.loc (thr d i) ↦[sumsM.view.set]{fullShare} f) -∗ Q ⟨⟩))
      ⊢ wpT d i (putSum (F := F) i ch v) Q := by
  iintro ⟨⟨%f, %hf, Hh⟩, Hk⟩
  unfold putSum
  simp only [Prog.lift, Prog.bind_op, Prog.bind_ret, Prog.pure_eq_ret]
  have hb : ∀ a, (![16 * ch.val] : Fin 1 → ℕ) a + S16.size a ≤ S48.size a := by
    intro a; fin_cases a; show 16 * ch.val + 16 ≤ 48; omega
  have hu : sumsM.view.set = Finset.univ := View.set_whole _
  iapply (wp_load 𝒱₀ (thr d i) none Set.univ (m := sumsM) (S := sumsM.view.set) (by rw [hu]; exact Finset.subset_univ _)) $$ Hh; iintro Hh
  iapply (wp_store 𝒱₀ (thr d i) none Set.univ (m := sumsM) (r := Rect.unit (s := S48) ![16 * ch.val] S16.size hb) (Mk := Finset.univ) (S := sumsM.view.set) (by rw [hu]; exact Finset.subset_univ _)) $$ Hh; iintro Hh
  simp only [ret_bind', wp_ret]
  imodintro
  iapply Hk
  iexists _
  isplitr; swap; · iexact Hh
  ipureintro
  intro x hx
  refine (read_row (n := 48) sumsM.view ch.val _ f _ x).trans ?_
  split
  · rename_i h; exact hw x h
  · rename_i h; exact hf x ((hP _ hx).resolve_right h)

theorem putAll_wp (s : Sums F) (Q : PUnit → sProp 𝕄) :
    iprop((∃ v, Held (thr d i) sumsM v) ∗ (Held (thr d i) sumsM (sums48 s) -∗ Q ⟨⟩))
      ⊢ wpT d i (putSum (F := F) i 0 s.1 >>= fun _ => putSum i 1 s.2.1 >>= fun _ => putSum i 2 s.2.2) Q := by
  unfold Held
  iintro ⟨⟨%v, %f, -, H⟩, Hk⟩
  iapply wpT_seq
  iapply (putSum_wp d i 0 s.1 (sums48 s) (fun x hx => by
    have h0 : (x 0).val / 16 = 0 := hx
    have : (x 0).val < 16 := by omega
    simp [sums48, this]) (fun _ => False) (fun n => n = 0) (fun n hn => Or.inr hn))
  isplitl [H]
  · iexists f
    isplitr; · ipureintro; exact fun x hx => hx.elim
    iexact H
  iintro H
  iapply wpT_seq
  iapply (putSum_wp d i 1 s.2.1 (sums48 s) (fun x hx => by
    have h0 : (x 0).val / 16 = 1 := hx
    have h1 : ¬ (x 0).val < 16 := by omega
    have h2 : (x 0).val < 32 := by omega
    simp [sums48, h1, h2]) (fun n => n = 0) (fun n => n = 0 ∨ n = 1) (fun n hn => hn))
  isplitl [H]; · iexact H
  iintro H
  iapply (putSum_wp d i 2 s.2.2 (sums48 s) (fun x hx => by
    have h0 : (x 0).val / 16 = 2 := hx
    have h1 : ¬ (x 0).val < 16 := by omega
    have h2 : ¬ (x 0).val < 32 := by omega
    simp [sums48, h1, h2]) (fun n => n = 0 ∨ n = 1) (fun n => n < 3) (fun n hn => by show (n = 0 ∨ n = 1) ∨ n = 2; omega))
  isplitl [H]; · iexact H
  iintro ⟨%g, %hg, H⟩
  iapply Hk
  iexists g
  isplitr; swap; · iexact H
  ipureintro
  funext x
  exact hg x (by have : (x 0).val < 48 := (x 0).isLt; omega)

end Cert.Proof.Tile

end
-- ==== Proof.TileDma.lean ====
/-
  The copies of the SparseCore task: a chunk's three copies started on one semaphore as a batch, the three waits that
  hand back the buffers at the rows fetched, the sixteen chunks in turn, and the copies that write the results out.
-/
module

public import proofs.«01_k».proof.Proof.TileRun

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords) (src : Memref sig .scVector .hbm S48x512x512 .f32)
  (X : Buf (Elt F) (src.view.loc (thr d i))) (q : Fin 4 → Fin 3 → PosShare TreeShare)

/-- One ring copy's credit. -/
abbrev NR : ℕ := (ring 0 0).view.dmaCredit

theorem ring_credit (s : Fin 4) (ch : Fin 3) : (ring s ch).view.dmaCredit = NR := by
  fin_cases s <;> fin_cases ch <;> rfl

theorem NR_pos : 0 < NR := View.dmaCredit_pos _ (by decide)

/-- The share of the source that the copies into buffer `ch` of set `s` read under. -/
abbrev Tok (s : Fin 4) (ch : Fin 3) : sProp 𝕄 := src.view.loc (thr d i) ↦{q s ch} X

/-- What stays of that share while chunk `c`'s copy reads its rows. -/
abbrev Rest (c : Fin 16) (ch : Fin 3) : sProp 𝕄 :=
  src.view.loc (thr d i) ↦[Finset.univ \ (srcAt src i c ch).view.set]{q (setOf c) ch} X

/-- What chunk `c`'s copies deliver: each buffer reading its rows, and the share back. -/
def deliv (c : Fin 16) (ch : Fin 3) : sProp 𝕄 :=
  iprop(Held (thr d i) (ring (setOf c) ch) (rd d src i c ch X)
    ∗ (srcAt src i c ch).view.loc (thr d i) ↦[(srcAt src i c ch).view.set]{q (setOf c) ch} X)

instance deliv_storable (c : Fin 16) : ∀ ch, Storable (upEmb : UEmb _ 𝕄) (deliv d i src X q c ch) :=
  fun ch => by unfold deliv; infer_instance

/-- Chunk `c`'s copies, `j` of them started and `u` units waited for. -/
abbrev Bat (c : Fin 16) (j u : ℕ) : sProp 𝕄 :=
  Transfers.Batch EC (thr d i) (.dma (rsem (setOf c))) (none : HIx 1) NR (deliv d i src X q c) j u

theorem issue_wp (c : Fin 16) (ch : Fin 3) (Q : PUnit → sProp 𝕄) :
    iprop((∃ v, Held (thr d i) (ring (setOf c) ch) v) ∗ Tok d i src X q (setOf c) ch ∗ Bat d i src X q c ch.val 0
      ∗ ((Bat d i src X q c (ch.val + 1) 0 ∗ Rest d i src X q c ch) -∗ Q ⟨⟩))
      ⊢ wpT d i (issue src i c ch) Q := by
  unfold Held
  iintro ⟨⟨%v, %f, -, Hd⟩, Ht, HB, Hk⟩
  ihave Ht := (pointsTo_split_subset (Finset.subset_univ (srcAt src i c ch).view.set)).1 $$ Ht
  icases Ht with ⟨Hs, Hr⟩
  unfold issue
  simp only [Prog.lift]
  iapply (Transfers.wp_dmaBatch EC 𝒱₀ (thr d i) none (src := srcAt src i c ch) (dst := ring (setOf c) ch) (sm := .dma (rsem (setOf c))) (fs := X) (fd := f) (q := q (setOf c) ch)
    (none : HIx 1) NR (ring_credit _ _) subset_rfl (D := deliv d i src X q c) (j := ch.val) (u := 0) ch.isLt (Nat.zero_le _) ?hD) $$ [Hs Hd HB]
  case hD =>
    unfold deliv Held
    iintro ⟨Hd, Hs⟩
    isplitl [Hd]
    · iexists _
      isplitr; swap; · iexact Hd
      ipureintro
      exact View.read_write_univ ..
    · iexact Hs
  · isplitl [Hs]; · iexact Hs
    isplitl [Hd]; · iexact Hd
    iexact HB
  iintro HB
  rw [wp_ret]
  imodintro
  iapply Hk
  isplitl [HB]; · iexact HB
  iexact Hr

/-- Chunk `c`'s three copies under way. -/
def Inflight (c : Fin 16) : sProp 𝕄 :=
  iprop(Bat d i src X q c 3 0 ∗ Rest d i src X q c 0 ∗ Rest d i src X q c 1 ∗ Rest d i src X q c 2)

/-- Ring set `s` idle. -/
def Free (s : Fin 4) : sProp 𝕄 :=
  iprop(semVal (thr d i, SemLoc.dma (rsem s)) 0 ∗ ((∃ v, Held (thr d i) (ring s 0) v) ∗ (∃ v, Held (thr d i) (ring s 1) v) ∗ (∃ v, Held (thr d i) (ring s 2) v))
    ∗ (Tok d i src X q s 0 ∗ Tok d i src X q s 1 ∗ Tok d i src X q s 2))

/-- Chunk `c` fetched. -/
def Ready (c : Fin 16) : sProp 𝕄 :=
  iprop(semVal (thr d i, SemLoc.dma (rsem (setOf c))) 0
    ∗ Rings d i (setOf c) (rd d src i c 0 X) (rd d src i c 1 X) (rd d src i c 2 X)
    ∗ (Tok d i src X q (setOf c) 0 ∗ Tok d i src X q (setOf c) 1 ∗ Tok d i src X q (setOf c) 2))

theorem issue3_wp (c : Fin 16) (Q : PUnit → sProp 𝕄) :
    iprop(Free d i src X q (setOf c) ∗ (Inflight d i src X q c -∗ Q ⟨⟩)) ⊢ wpT d i (issue3 src i c) Q := by
  unfold Free Inflight
  iintro ⟨⟨Hv, ⟨Hd0, Hd1, Hd2⟩, ⟨Ht0, Ht1, Ht2⟩⟩, Hk⟩
  imod (Transfers.batch_alloc' (Lvl := ℕ) EC (thr d i) (none : HIx 1) NR (deliv d i src X q c) (sm := .dma (rsem (setOf c))) (E := Set.univ)) $$ Hv with HB
  unfold issue3
  iapply wpT_seq
  iapply (issue_wp d i src X q c 0)
  isplitl [Hd0]; · iexact Hd0
  isplitl [Ht0]; · iexact Ht0
  isplitl [HB]; · iexact HB
  iintro ⟨HB, Hr0⟩
  iapply wpT_seq
  iapply (issue_wp d i src X q c 1)
  isplitl [Hd1]; · iexact Hd1
  isplitl [Ht1]; · iexact Ht1
  isplitl [HB]; · iexact HB
  iintro ⟨HB, Hr1⟩
  iapply (issue_wp d i src X q c 2)
  isplitl [Hd2]; · iexact Hd2
  isplitl [Ht2]; · iexact Ht2
  isplitl [HB]; · iexact HB
  iintro ⟨HB, Hr2⟩
  iapply Hk
  isplitl [HB]; · iexact HB
  isplitl [Hr0]; · iexact Hr0
  isplitl [Hr1]; · iexact Hr1
  iexact Hr2

/-! ## The waits -/

variable (O : CellTallies nD τ sig (HIx 1)) (W : Waits sig (HIx 1)) (hO : ∀ g, O g none = 0)

theorem owes_more {W' : Waits sig (HIx 1)} (sm : SemLoc sig) (h : ∀ p ∈ W', p ∈ W ∨ p.2 = none) :
    (owes (thr d i) O (insert (sm, none) W') : sProp 𝕄) ⊢ Owes (thr d i) O W := by
  unfold Owes
  iintro H
  iexists (insert (sm, none) W')
  isplitr; swap; · iexact H
  ipureintro
  intro p hp
  rcases Finset.mem_insert.mp hp with rfl | hp
  · exact Or.inr rfl
  · exact h p hp

theorem owes_open : (Owes (thr d i) O W : sProp 𝕄) ⊢ iprop(∃ W', ⌜∀ p ∈ W', p ∈ W ∨ p.2 = none⌝ ∗ owes (thr d i) O W') := .rfl

include hO in
theorem await_wp (c : Fin 16) (ch : Fin 3) (u : ℕ) (hu : u + NR < NR * 3) (Q : PUnit → sProp 𝕄) :
    iprop(levAts (K (F := F)).L (K (F := F)).lev ∗ Bat d i src X q c 3 u ∗ Owes (thr d i) O W
      ∗ ((Bat d i src X q c 3 (u + NR) ∗ Owes (thr d i) O W) -∗ Q ⟨⟩))
      ⊢ wpT d i (await src i c ch) Q := by
  iintro ⟨#Hlv, HB, HO, Hk⟩
  ihave HO := (owes_open d i O W) $$ HO
  icases HO with ⟨%W', %hW, HO⟩
  unfold await
  simp only [Prog.lift]
  iapply (Transfers.wp_waitBatchO EC 𝒱₀ (thr d i) none (none : HIx 1) (ring_credit (setOf c) ch) (D := deliv d i src X q c) (u := u) hu) $$ [HB HO]
  · isplitl [HB]; · iexact HB
    isplitl [HO]; · iexact HO
    iapply ((K (F := F)).mayWait_none _ hO); iexact Hlv
  iintro ⟨HB, HO⟩
  rw [wp_ret]
  imodintro
  iapply Hk
  isplitl [HB]; · iexact HB
  iapply (owes_more d i O W _ hW) $$ HO

include hO in
theorem await3_wp (c : Fin 16) (Q : PUnit → sProp 𝕄) :
    iprop(levAts (K (F := F)).L (K (F := F)).lev ∗ Inflight d i src X q c ∗ Owes (thr d i) O W
      ∗ ((Ready d i src X q c ∗ Owes (thr d i) O W) -∗ Q ⟨⟩))
      ⊢ wpT d i (await3 src i c) Q := by
  have hp := NR_pos
  unfold Inflight
  iintro ⟨#Hlv, ⟨HB, Hr0, Hr1, Hr2⟩, HO, Hk⟩
  unfold await3
  iapply wpT_seq
  iapply (await_wp d i src X q O W hO c 0 0 (by omega))
  isplitr; · iexact Hlv
  isplitl [HB]; · iexact HB
  isplitl [HO]; · iexact HO
  iintro ⟨HB, HO⟩
  iapply wpT_seq
  iapply (await_wp d i src X q O W hO c 1 (0 + NR) (by omega))
  isplitr; · iexact Hlv
  isplitl [HB]; · iexact HB
  isplitl [HO]; · iexact HO
  iintro ⟨HB, HO⟩
  unfold await
  simp only [Prog.lift]
  ihave HO := (owes_open d i O W) $$ HO
  icases HO with ⟨%W', %hW, HO⟩
  iapply (Transfers.wp_waitBatchLastO EC 𝒱₀ (thr d i) none (none : HIx 1) (ring_credit (setOf c) 2) NR_pos (D := deliv d i src X q c) (u := 0 + NR + NR) (by omega)) $$ [HB HO]
  · isplitl [HB]; · iexact HB
    isplitl [HO]; · iexact HO
    iapply ((K (F := F)).mayWait_none _ hO); iexact Hlv
  rw [bigSep_univ_eq_bigSepL [0, 1, 2] (by decide) (by decide) _]
  iintro ⟨HD, Hv, HO⟩
  rw [wp_ret]
  imodintro
  iapply Hk
  isplitr [HO]
  · ihave HD := (show bigSepL [0, 1, 2] (deliv d i src X q c) ⊢ iprop(deliv d i src X q c 0 ∗ deliv d i src X q c 1 ∗ deliv d i src X q c 2) from .rfl) $$ HD
    unfold deliv Ready Rings
    icases HD with ⟨⟨H0, Hs0⟩, ⟨H1, Hs1⟩, ⟨H2, Hs2⟩⟩
    isplitl [Hv]; · iexact Hv
    isplitl [H0 H1 H2]
    · isplitl [H0]; · iexact H0
      isplitl [H1]; · iexact H1
      iexact H2
    · isplitl [Hs0 Hr0]
      · iapply (pointsTo_split_subset (Finset.subset_univ (srcAt src i c 0).view.set)).2
        isplitl [Hs0]; · iexact Hs0
        iexact Hr0
      isplitl [Hs1 Hr1]
      · iapply (pointsTo_split_subset (Finset.subset_univ (srcAt src i c 1).view.set)).2
        isplitl [Hs1]; · iexact Hs1
        iexact Hr1
      · iapply (pointsTo_split_subset (Finset.subset_univ (srcAt src i c 2).view.set)).2
        isplitl [Hs2]; · iexact Hs2
        iexact Hr2
  · iapply (owes_more d i O W _ hW) $$ HO

end Cert.Proof.Tile

end
-- ==== Proof.TileTask.lean ====
/-
  The sixteen chunks in turn over the ring of four buffer sets, the copies out, one image, and the whole task.
-/
module

public import proofs.«01_k».proof.Proof.TileDma

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords) (O : CellTallies nD τ sig (HIx 1)) (W : Waits sig (HIx 1)) (hO : ∀ g, O g none = 0)

section Chunks

variable (src : Memref sig .scVector .hbm S48x512x512 .f32) (X : Buf (Elt F) (src.view.loc (thr d i)))
  (q : Fin 4 → Fin 3 → PosShare TreeShare)

/-- The ring set of chunk number `m`: its copies under way where there is such a chunk, idle past the last. -/
def Slot (m : ℕ) : sProp 𝕄 :=
  if h : m < 16 then Inflight d i src X q ⟨m, h⟩ else Free d i src X q ⟨m % 4, Nat.mod_lt _ (by decide)⟩

theorem slot_lt (m : ℕ) (h : m < 16) : Slot d i src X q m = Inflight d i src X q ⟨m, h⟩ := dif_pos h

theorem slot_ge (m : ℕ) (h : ¬ m < 16) : Slot d i src X q m = Free d i src X q ⟨m % 4, Nat.mod_lt _ (by decide)⟩ := dif_neg h

theorem ready_free (c : Fin 16) : Ready d i src X q c ⊢ Free d i src X q (setOf c) := by
  unfold Ready Free Rings
  iintro ⟨Hv, ⟨H0, H1, H2⟩, Ht⟩
  isplitl [Hv]; · iexact Hv
  isplitl [H0 H1 H2]
  · isplitl [H0]; · iexists _; iexact H0
    isplitl [H1]; · iexists _; iexact H1
    iexists _; iexact H2
  · iexact Ht

theorem refill_wp (c : Fin 16) (Q : PUnit → sProp 𝕄) :
    iprop(Free d i src X q (setOf c) ∗ (Slot d i src X q (c.val + 4) -∗ Q ⟨⟩)) ⊢ wpT d i (refill src i c) Q := by
  have e : setOf c = (⟨(c.val + 4) % 4, Nat.mod_lt _ (by decide)⟩ : Fin 4) := Fin.ext (by show c.val % 4 = (c.val + 4) % 4; omega)
  unfold refill Slot
  rw [e]
  by_cases h : c.val + 4 < 16
  · rw [dif_pos h, dif_pos h]
    exact issue3_wp d i src X q ⟨c.val + 4, h⟩ Q
  · rw [dif_neg h, dif_neg h]
    iintro ⟨HF, Hk⟩
    iapply wpT_pure
    iapply Hk
    iexact HF

include hO in
theorem chunks_wp : ∀ (k n : ℕ), n + k = 16 → ∀ (st : St F) (Q : Sums F → sProp 𝕄),
    iprop(levAts (K (F := F)).L (K (F := F)).lev
      ∗ (Slot d i src X q n ∗ Slot d i src X q (n + 1) ∗ Slot d i src X q (n + 2) ∗ Slot d i src X q (n + 3)) ∗ Held (thr d i) hist st.1
      ∗ Owes (thr d i) O W
      ∗ (((Slot d i src X q 16 ∗ Slot d i src X q 17 ∗ Slot d i src X q 18 ∗ Slot d i src X q 19)
          ∗ Held (thr d i) hist (((List.finRange 16).drop n).foldl (chunkV d src i X) st).1 ∗ Owes (thr d i) O W)
          -∗ Q (((List.finRange 16).drop n).foldl (chunkV d src i X) st).2))
      ⊢ wpT d i (chunks src i ((List.finRange 16).drop n) st.2) Q
  | 0, n, hn, st, Q => by
    obtain rfl : n = 16 := by omega
    rw [show (List.finRange 16).drop 16 = [] from List.drop_eq_nil_of_le (by simp), List.foldl_nil]
    iintro ⟨-, HS, Hh, HO, Hk⟩
    iapply wpT_pure
    iapply Hk
    isplitl [HS]; · iexact HS
    isplitl [Hh]; · iexact Hh
    iexact HO
  | k + 1, n, hn, st, Q => by
    have hn' : n < 16 := by omega
    have e : (List.finRange 16).drop n = (⟨n, hn'⟩ : Fin 16) :: (List.finRange 16).drop (n + 1) := by
      rw [List.drop_eq_getElem_cons (by simpa using hn')]; simp
    rw [e]
    have es : Slot d i src X q n = Inflight d i src X q ⟨n, hn'⟩ := dif_pos hn'
    rw [es]
    iintro ⟨#Hlv, ⟨H0, H1, H2, H3⟩, Hh, HO, Hk⟩
    unfold chunks
    iapply wpT_seq
    iapply (await3_wp d i src X q O W hO ⟨n, hn'⟩)
    isplitr; · iexact Hlv
    isplitl [H0]; · iexact H0
    isplitl [HO]; · iexact HO
    iintro ⟨HR, HO⟩
    iapply wpT_seq
    unfold Ready
    icases HR with ⟨Hv, HR, Ht⟩
    iapply (accum_wp d i (setOf ⟨n, hn'⟩) (rd d src i ⟨n, hn'⟩ 0 X) (rd d src i ⟨n, hn'⟩ 1 X) (rd d src i ⟨n, hn'⟩ 2 X) st.1 st.2)
    isplitl [HR Hh]
    · isplitl [HR]; · iexact HR
      iexact Hh
    iintro ⟨HR, Hh⟩
    iapply wpT_seq
    iapply (refill_wp d i src X q ⟨n, hn'⟩)
    isplitl [Hv HR Ht]
    · iapply (ready_free d i src X q ⟨n, hn'⟩)
      unfold Ready
      isplitl [Hv]; · iexact Hv
      isplitl [HR]; · iexact HR
      iexact Ht
    iintro H4
    iapply (chunks_wp k (n + 1) (by omega) (chunkV d src i X st ⟨n, hn'⟩) Q)
    isplitr; · iexact Hlv
    isplitl [H1 H2 H3 H4]
    · isplitl [H1]; · iexact H1
      isplitl [H2]; · iexact H2
      isplitl [H3]; · iexact H3
      iexact H4
    isplitl [Hh]; · iexact Hh
    isplitl [HO]; · iexact HO
    iexact Hk

end Chunks

/-! ## Copying out -/

include hO in
theorem copyOut_wp {s : Shape} (M : Memref sig .scVector .vmem s .f32) (o : Memref sig .scVector .hbm s .f32) (sm : DmaSem sig)
    (hM : M.view.WordExact) (ho : o.view.WordExact) (hty : DmaTarget.Typed (nD := nD) .vmem (.dma sm) (DmaTarget.here (p := (thr d i).2) o)) (hN : 0 < o.view.dmaCredit)
    (v : Vec F s .f32) (Q : PUnit → sProp 𝕄) :
    iprop(levAts (K (F := F)).L (K (F := F)).lev ∗ Held (thr d i) M v ∗ (∃ w, Held (thr d i) o w) ∗ semVal (thr d i, SemLoc.dma sm) 0 ∗ Owes (thr d i) O W
      ∗ ((Held (thr d i) M v ∗ Held (thr d i) o v ∗ semVal (thr d i, SemLoc.dma sm) 0 ∗ Owes (thr d i) O W) -∗ Q ⟨⟩))
      ⊢ wpT d i ((Prog.lift (.enqueueDma M (.here o) (.dma sm) hM ho hty) : TP F i PUnit) >>= fun _ =>
          Prog.lift (.waitDma2 sm M o hM ho)) Q := by
  unfold Held
  iintro ⟨#Hlv, ⟨%f, %hf, HM⟩, ⟨%w, %g, -, Ho⟩, Hv, HO, Hk⟩
  ihave HO := (owes_open d i O W) $$ HO
  icases HO with ⟨%W', %hW, HO⟩
  simp only [Prog.lift, Prog.bind_op, Prog.bind_ret, Prog.pure_eq_ret]
  imod (Transfers.batch_alloc' (Lvl := ℕ) EC (thr d i) (none : HIx 1) o.view.dmaCredit (fun _ : Fin 1 => iprop(Held (thr d i) M v ∗ Held (thr d i) o v)) (sm := .dma sm) (E := Set.univ)) $$ Hv with HB
  iapply (Transfers.wp_dmaBatch EC 𝒱₀ (thr d i) none (src := M) (dst := o) (sm := .dma sm) (fs := f) (fd := g) (q := fullShare)
    (none : HIx 1) o.view.dmaCredit rfl subset_rfl (D := fun _ : Fin 1 => iprop(Held (thr d i) M v ∗ Held (thr d i) o v)) (j := 0) (u := 0) (by decide) (Nat.zero_le _) ?hD) $$ [HM Ho HB]
  case hD =>
    unfold Held
    iintro ⟨Ho, HM⟩
    isplitl [HM]
    · iexists f
      isplitr; · ipureintro; exact hf
      iexact HM
    · iexists _
      isplitr; swap; · iexact Ho
      ipureintro
      exact (View.read_write_univ ..).trans hf
  · isplitl [HM]; · iexact HM
    isplitl [Ho]; · iexact Ho
    iexact HB
  iintro HB
  simp only [ret_bind']
  iapply (Transfers.wp_waitBatchLastO EC 𝒱₀ (thr d i) none (none : HIx 1) (N := o.view.dmaCredit) rfl hN
    (D := fun _ : Fin 1 => iprop(Held (thr d i) M v ∗ Held (thr d i) o v)) (u := 0) (by omega)) $$ [HB HO]
  · isplitl [HB]; · iexact HB
    isplitl [HO]; · iexact HO
    iapply ((K (F := F)).mayWait_none _ hO); iexact Hlv
  rw [bigSep_univ_eq_bigSepL [0] (by decide) (by decide) _]
  iintro ⟨HD, Hv, HO⟩
  rw [wp_ret]
  imodintro
  ihave HD := (show bigSepL [0] (fun _ : Fin 1 => iprop(Held (thr d i) M v ∗ Held (thr d i) o v)) ⊢ iprop(Held (thr d i) M v ∗ Held (thr d i) o v) from .rfl) $$ HD
  icases HD with ⟨HM, Ho⟩
  unfold Held
  iapply Hk
  isplitl [HM]; · iexact HM
  isplitl [Ho]; · iexact Ho
  isplitl [Hv]; · iexact Hv
  iapply (owes_more d i O W _ hW) $$ HO

/-! ## One image -/

/-- Ring set `s` idle, without the shares of a source. -/
def Idle (s : Fin 4) : sProp 𝕄 :=
  iprop(semVal (thr d i, SemLoc.dma (rsem s)) 0 ∗ ((∃ v, Held (thr d i) (ring s 0) v) ∗ (∃ v, Held (thr d i) (ring s 1) v) ∗ (∃ v, Held (thr d i) (ring s 2) v)))

/-- The task's scratches between images. -/
def Scratch : sProp 𝕄 :=
  iprop(Idle (F := F) d i 0 ∗ Idle d i 1 ∗ Idle d i 2 ∗ Idle d i 3 ∗ (∃ v, Held (thr d i) hist v) ∗ (∃ v, Held (thr d i) sumsM v))

/-- The shares of one source that the task reads under. -/
def Toks (src : Memref sig .scVector .hbm S48x512x512 .f32) (X : Buf (Elt F) (src.view.loc (thr d i)))
    (q : Fin 4 → Fin 3 → PosShare TreeShare) : sProp 𝕄 :=
  iprop((Tok d i src X q 0 0 ∗ Tok d i src X q 0 1 ∗ Tok d i src X q 0 2) ∗ (Tok d i src X q 1 0 ∗ Tok d i src X q 1 1 ∗ Tok d i src X q 1 2)
    ∗ (Tok d i src X q 2 0 ∗ Tok d i src X q 2 1 ∗ Tok d i src X q 2 2) ∗ (Tok d i src X q 3 0 ∗ Tok d i src X q 3 1 ∗ Tok d i src X q 3 2))

theorem free_eq (s : Fin 4) (src : Memref sig .scVector .hbm S48x512x512 .f32) (X : Buf (Elt F) (src.view.loc (thr d i)))
    (q : Fin 4 → Fin 3 → PosShare TreeShare) :
    Free d i src X q s ⊣⊢ iprop(Idle d i s ∗ (Tok d i src X q s 0 ∗ Tok d i src X q s 1 ∗ Tok d i src X q s 2)) := by
  unfold Free Idle
  exact sep_assoc.symm

theorem putAll_seq (s : Sums F) (p : TP F i PUnit) (Q : PUnit → sProp 𝕄) :
    iprop((∃ v, Held (thr d i) sumsM v) ∗ (Held (thr d i) sumsM (sums48 s) -∗ wpT d i p Q))
      ⊢ wpT d i (putSum (F := F) i 0 s.1 >>= fun _ => putSum i 1 s.2.1 >>= fun _ => putSum i 2 s.2.2 >>= fun _ => p) Q := by
  have e : (putSum (F := F) i 0 s.1 >>= fun _ => putSum i 1 s.2.1 >>= fun _ => putSum i 2 s.2.2 >>= fun _ => p)
      = ((putSum (F := F) i 0 s.1 >>= fun _ => putSum i 1 s.2.1 >>= fun _ => putSum i 2 s.2.2) >>= fun _ => p) := by
    simp only [bind_assoc]
  rw [e]
  exact (putAll_wp d i s (fun _ => wpT d i p Q)).trans (wpT_seq d i (q := fun _ => p))

include hO in
theorem process_wp (src : Memref sig .scVector .hbm S48x512x512 .f32) (X : Buf (Elt F) (src.view.loc (thr d i)))
    (q : Fin 4 → Fin 3 → PosShare TreeShare) (ho : Memref sig .scVector .hbm S32768 .f32) (so : Memref sig .scVector .hbm S1536 .f32)
    (s0 s1 : DmaSem sig) (Q : PUnit → sProp 𝕄) :
    iprop(levAts (K (F := F)).L (K (F := F)).lev ∗ Scratch d i ∗ Toks d i src X q
      ∗ ((∃ w, Held (thr d i) (histOut ho i) w) ∗ (∃ w, Held (thr d i) (sumsOut so i) w))
      ∗ (semVal (thr d i, SemLoc.dma s0) 0 ∗ semVal (thr d i, SemLoc.dma s1) 0) ∗ Owes (thr d i) O W
      ∗ ((Scratch d i ∗ Toks d i src X q
          ∗ (Held (thr d i) (histOut ho i) (procV d src i X).1 ∗ Held (thr d i) (sumsOut so i) (sums48 (procV d src i X).2))
          ∗ (semVal (thr d i, SemLoc.dma s0) 0 ∗ semVal (thr d i, SemLoc.dma s1) 0) ∗ Owes (thr d i) O W) -∗ Q ⟨⟩))
      ⊢ wpT d i (process i src ho so s0 s1) Q := by
  unfold Scratch Toks
  iintro ⟨#Hlv, ⟨Hi0, Hi1, Hi2, Hi3, ⟨%h, Hh⟩, Hs⟩, ⟨Ht0, Ht1, Ht2, Ht3⟩, ⟨Hho, Hso⟩, ⟨Hv0, Hv1⟩, HO, Hk⟩
  have hin0 : Slot d i src X q 0 = Inflight d i src X q 0 := slot_lt d i src X q 0 (by decide)
  have hin1 : Slot d i src X q 1 = Inflight d i src X q 1 := slot_lt d i src X q 1 (by decide)
  have hin2 : Slot d i src X q 2 = Inflight d i src X q 2 := slot_lt d i src X q 2 (by decide)
  have hin3 : Slot d i src X q 3 = Inflight d i src X q 3 := slot_lt d i src X q 3 (by decide)
  have h16 : Slot d i src X q 16 = Free d i src X q 0 := slot_ge d i src X q 16 (by decide)
  have h17 : Slot d i src X q 17 = Free d i src X q 1 := slot_ge d i src X q 17 (by decide)
  have h18 : Slot d i src X q 18 = Free d i src X q 2 := slot_ge d i src X q 18 (by decide)
  have h19 : Slot d i src X q 19 = Free d i src X q 3 := slot_ge d i src X q 19 (by decide)
  unfold process
  iapply wpT_seq
  iapply (zeros_wp d i)
  isplitl [Hh]
  · unfold Held
    icases Hh with ⟨%f, -, Hh⟩
    iexists f
    isplitr; swap; · iexact Hh
    ipureintro
    intro x hx
    have hlt : (x 0).val < 1024 := (x 0).isLt
    exact absurd rfl (hx ⟨(x 0).val / 16, by omega⟩ (List.mem_finRange _))
  iintro Hh
  iapply wpT_seq
  iapply (issue3_wp d i src X q 0)
  isplitl [Hi0 Ht0]
  · iapply (free_eq d i 0 src X q).2
    isplitl [Hi0]; · iexact Hi0
    iexact Ht0
  iintro H0
  iapply wpT_seq
  iapply (issue3_wp d i src X q 1)
  isplitl [Hi1 Ht1]
  · iapply (free_eq d i 1 src X q).2
    isplitl [Hi1]; · iexact Hi1
    iexact Ht1
  iintro H1
  iapply wpT_seq
  iapply (issue3_wp d i src X q 2)
  isplitl [Hi2 Ht2]
  · iapply (free_eq d i 2 src X q).2
    isplitl [Hi2]; · iexact Hi2
    iexact Ht2
  iintro H2
  iapply wpT_seq
  iapply (issue3_wp d i src X q 3)
  isplitl [Hi3 Ht3]
  · iapply (free_eq d i 3 src X q).2
    isplitl [Hi3]; · iexact Hi3
    iexact Ht3
  iintro H3
  iapply wpT_seq
  iapply (chunks_wp d i O W hO src X q 16 0 rfl
    ((fun _ => Scalar.ofBits .f32 0x00000000#32), k0_pay129, k0_pay129, k0_pay129))
  isplitr; · iexact Hlv
  isplitl [H0 H1 H2 H3]
  · isplitl [H0]; · iapply (Entails.of_eq hin0.symm) $$ H0
    isplitl [H1]; · iapply (Entails.of_eq hin1.symm) $$ H1
    isplitl [H2]; · iapply (Entails.of_eq hin2.symm) $$ H2
    iapply (Entails.of_eq hin3.symm) $$ H3
  isplitl [Hh]; · iexact Hh
  isplitl [HO]; · iexact HO
  have ev : ((List.finRange 16).drop 0).foldl (chunkV d src i X) ((fun _ => Scalar.ofBits .f32 0x00000000#32), k0_pay129, k0_pay129, k0_pay129)
    = procV d src i X := rfl
  rw [ev]
  rw [h16, h17, h18, h19]
  iintro ⟨⟨H0, H1, H2, H3⟩, Hh, HO⟩
  ihave H0 := (free_eq d i 0 src X q).1 $$ H0
  ihave H1 := (free_eq d i 1 src X q).1 $$ H1
  ihave H2 := (free_eq d i 2 src X q).1 $$ H2
  ihave H3 := (free_eq d i 3 src X q).1 $$ H3
  icases H0 with ⟨Hi0, Ht0⟩
  icases H1 with ⟨Hi1, Ht1⟩
  icases H2 with ⟨Hi2, Ht2⟩
  icases H3 with ⟨Hi3, Ht3⟩
  iapply (putAll_seq d i (procV d src i X).2)
  isplitl [Hs]; · iexact Hs
  iintro Hs
  iapply wpT_seq
  unfold putHist
  iapply (copyOut_wp d i O W hO hist (histOut ho i) s0 _ _ _ (View.dmaCredit_pos _ (by decide)) (procV d src i X).1)
  isplitr; · iexact Hlv
  isplitl [Hh]; · iexact Hh
  isplitl [Hho]; · iexact Hho
  isplitl [Hv0]; · iexact Hv0
  isplitl [HO]; · iexact HO
  iintro ⟨Hh, Hho, Hv0, HO⟩
  unfold putSums
  iapply (copyOut_wp d i O W hO sumsM (sumsOut so i) s1 _ _ _ (View.dmaCredit_pos _ (by decide)) (sums48 (procV d src i X).2))
  isplitr; · iexact Hlv
  isplitl [Hs]; · iexact Hs
  isplitl [Hso]; · iexact Hso
  isplitl [Hv1]; · iexact Hv1
  isplitl [HO]; · iexact HO
  iintro ⟨Hs, Hso, Hv1, HO⟩
  iapply Hk
  isplitl [Hi0 Hi1 Hi2 Hi3 Hh Hs]
  · isplitl [Hi0]; · iexact Hi0
    isplitl [Hi1]; · iexact Hi1
    isplitl [Hi2]; · iexact Hi2
    isplitl [Hi3]; · iexact Hi3
    isplitl [Hh]; · iexists _; iexact Hh
    iexists _; iexact Hs
  isplitl [Ht0 Ht1 Ht2 Ht3]
  · isplitl [Ht0]; · iexact Ht0
    isplitl [Ht1]; · iexact Ht1
    isplitl [Ht2]; · iexact Ht2
    iexact Ht3
  isplitl [Hho Hso]
  · isplitl [Hho]; · iexact Hho
    iexact Hso
  isplitl [Hv0 Hv1]
  · isplitl [Hv0]; · iexact Hv0
    iexact Hv1
  iexact HO

include hO in
theorem task_wp (X Y : Buf (Elt F) ((thr d i).loc main_v0_scv)) (q q' : Fin 4 → Fin 3 → PosShare TreeShare) (Q : PUnit → sProp 𝕄) :
    iprop(levAts (K (F := F)).L (K (F := F)).lev ∗ Scratch d i
      ∗ (Toks d i (Memref.whole main_v0_scv) X q ∗ Toks d i (Memref.whole main_v1_scv) Y q')
      ∗ (((∃ w, Held (thr d i) (histOut (Memref.whole main_v2_0_scv) i) w) ∗ (∃ w, Held (thr d i) (sumsOut (Memref.whole main_v2_2_scv) i) w))
        ∗ ((∃ w, Held (thr d i) (histOut (Memref.whole main_v2_1_scv) i) w) ∗ (∃ w, Held (thr d i) (sumsOut (Memref.whole main_v2_3_scv) i) w)))
      ∗ ((semVal (thr d i, SemLoc.dma cc0_scoped0.sem) 0 ∗ semVal (thr d i, SemLoc.dma cc0_scoped1.sem) 0)
        ∗ (semVal (thr d i, SemLoc.dma cc0_scoped2.sem) 0 ∗ semVal (thr d i, SemLoc.dma cc0_scoped3.sem) 0))
      ∗ Owes (thr d i) O W
      ∗ ((Scratch d i
        ∗ (Toks d i (Memref.whole main_v0_scv) X q ∗ Toks d i (Memref.whole main_v1_scv) Y q')
        ∗ ((Held (thr d i) (histOut (Memref.whole main_v2_0_scv) i) (procV d (Memref.whole main_v0_scv) i X).1
            ∗ Held (thr d i) (sumsOut (Memref.whole main_v2_2_scv) i) (sums48 (procV d (Memref.whole main_v0_scv) i X).2))
          ∗ (Held (thr d i) (histOut (Memref.whole main_v2_1_scv) i) (procV d (Memref.whole main_v1_scv) i Y).1
            ∗ Held (thr d i) (sumsOut (Memref.whole main_v2_3_scv) i) (sums48 (procV d (Memref.whole main_v1_scv) i Y).2)))
        ∗ ((semVal (thr d i, SemLoc.dma cc0_scoped0.sem) 0 ∗ semVal (thr d i, SemLoc.dma cc0_scoped1.sem) 0)
          ∗ (semVal (thr d i, SemLoc.dma cc0_scoped2.sem) 0 ∗ semVal (thr d i, SemLoc.dma cc0_scoped3.sem) 0))
        ∗ Owes (thr d i) O W) -∗ Q ⟨⟩))
      ⊢ wpT d i (task i) Q := by
  iintro ⟨#Hlv, HS, ⟨HX, HY⟩, ⟨Hox, Hoy⟩, ⟨Hvx, Hvy⟩, HO, Hk⟩
  unfold task
  iapply wpT_seq
  iapply (process_wp d i O W hO (Memref.whole main_v0_scv) X q (Memref.whole main_v2_0_scv) (Memref.whole main_v2_2_scv) cc0_scoped0.sem cc0_scoped1.sem)
  isplitr; · iexact Hlv
  isplitl [HS]; · iexact HS
  isplitl [HX]; · iexact HX
  isplitl [Hox]; · iexact Hox
  isplitl [Hvx]; · iexact Hvx
  isplitl [HO]; · iexact HO
  iintro ⟨HS, HX, Hox, Hvx, HO⟩
  iapply (process_wp d i O W hO (Memref.whole main_v1_scv) Y q' (Memref.whole main_v2_1_scv) (Memref.whole main_v2_3_scv) cc0_scoped2.sem cc0_scoped3.sem)
  isplitr; · iexact Hlv
  isplitl [HS]; · iexact HS
  isplitl [HY]; · iexact HY
  isplitl [Hoy]; · iexact Hoy
  isplitl [Hvy]; · iexact Hvy
  isplitl [HO]; · iexact HO
  iintro ⟨HS, HY, Hoy, Hvy, HO⟩
  iapply Hk
  isplitl [HS]; · iexact HS
  isplitl [HX HY]
  · isplitl [HX]; · iexact HX
    iexact HY
  isplitl [Hox Hoy]
  · isplitl [Hox]; · iexact Hox
    iexact Hoy
  isplitl [Hvx Hvy]
  · isplitl [Hvx]; · iexact Hvx
    iexact Hvy
  iexact HO

end Cert.Proof.Tile

end
-- ==== Proof.TileBody.lean ====
/-
  The whole task against what the launch theorem hands a tile: its own scratch buffers and semaphores in, the same back.
-/
module

public import proofs.«01_k».proof.Proof.TileTask
public import Idealize.ShloMosaic.Lib.Pipeline.BigSepL

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Listed members of a set taken out of a separating conjunction over it. -/
theorem bigSep_take {M : Type} [URA M] {I J : Type} [DecidableEq I] [DecidableEq J] (f : J → I) (hf : Function.Injective f) (l : List J)
    (hl : l.Nodup) (s : Finset I) (hs : ∀ x ∈ l, f x ∈ s) (Φ : I → sProp M) :
    bigSep s Φ = iprop(bigSepL l (fun x => Φ (f x)) ∗ bigSep (s \ (l.map f).toFinset) Φ) := by
  have hsub : (l.map f).toFinset ⊆ s := by
    intro y hy
    rw [List.mem_toFinset, List.mem_map] at hy
    obtain ⟨x, hx, rfl⟩ := hy
    exact hs x hx
  conv_lhs => rw [← Finset.union_sdiff_of_subset hsub]
  rw [SparseCore.bigSep_union' Finset.disjoint_sdiff, bigSep_eq_bigSepL _ (hl.map hf), bigSepL_map]

variable (d : Dev nD) (i : grid0.Coords)

/-- The tile's scratch buffers. -/
def refsL : List (Ref sig .scVector) :=
  [cc0_scratch0, cc0_scratch1, cc0_scratch2, cc0_scratch3, cc0_scratch4, cc0_scratch5, cc0_scratch6, cc0_scratch7, cc0_scratch8,
    cc0_scratch9, cc0_scratch10, cc0_scratch11, cc0_scratch12, cc0_scratch13]

/-- The tile's semaphores. -/
def semsL : List (DmaSem sig) :=
  [rsem 0, rsem 1, rsem 2, rsem 3, cc0_scoped0.sem, cc0_scoped1.sem, cc0_scoped2.sem, cc0_scoped3.sem]

theorem refsL_nodup : refsL.Nodup := by decide

theorem semsL_nodup : semsL.Nodup := by decide

theorem semsL_scoped : ∀ s ∈ semsL, (SemLoc.dma s : SemLoc sig).isScoped .scVector = true := by decide

theorem ownBufs_take :
    (ownBufs (thr d i) : sProp 𝕄)
      = iprop(bigSepL refsL (fun b => iprop(∃ f, (thr d i).loc b ↦{fullShare} f))
          ∗ bigSep ((ownRefs (τ := τ) (thr d i).2) \ (refsL.map (thr d i).2.devRef).toFinset) fun b => iprop(∃ f, ((d, b) : Loc nD τ sig) ↦{fullShare} f)) := by
  unfold SparseCore.Cfg.ownBufs
  refine bigSep_take (thr d i).2.devRef (Proc.devRef_injective _) refsL refsL_nodup _ ?_ _
  intro b hb
  refine SparseCore.Cfg.mem_ownRefs_of_owner ?_
  revert b
  simp only [refsL, List.forall_mem_cons]
  exact ⟨rfl, rfl, rfl, rfl, rfl, rfl, rfl, rfl, rfl, rfl, rfl, rfl, rfl, rfl, fun _ h => absurd h List.not_mem_nil⟩

theorem ownSems0_take :
    (ownSems0 (thr d i) : sProp 𝕄)
      = iprop(bigSepL semsL (fun s => semVal (thr d i, SemLoc.dma s) 0)
          ∗ bigSep ((ownCells (thr d i)) \ (semsL.map fun s => (thr d i, SemLoc.dma s)).toFinset) fun g => semVal g 0) := by
  unfold SparseCore.Cfg.ownSems0
  refine bigSep_take (fun s => (thr d i, SemLoc.dma s)) (fun a b h => by simpa using h) semsL semsL_nodup _ ?_ _
  intro s hs
  refine mem_ownCells.mpr ⟨rfl, ?_⟩
  exact semsL_scoped s hs

theorem held_intro (b : Ref sig .scVector) :
    (iprop(∃ f, (thr d i).loc b ↦{fullShare} f) : sProp 𝕄) ⊢ iprop(∃ v, Held (thr d i) (Memref.whole b) v) := by
  unfold Held
  iintro ⟨%f, H⟩
  iexists _, f
  isplitr; · ipureintro; rfl
  rw [show (Memref.whole b).view.set = Finset.univ from View.set_whole _]
  iexact H

theorem held_elim (b : Ref sig .scVector) :
    (iprop(∃ v, Held (thr d i) (Memref.whole b) v) : sProp 𝕄) ⊢ iprop(∃ f, (thr d i).loc b ↦{fullShare} f) := by
  unfold Held
  rw [show (Memref.whole b).view.set = Finset.univ from View.set_whole _]
  iintro ⟨%v, %f, -, H⟩
  iexists f
  iexact H

end Cert.Proof.Tile

end
-- ==== Proof.Regions.lean ====
/-
  Where the thirty-two tiles' parts lie in the four result arrays: their element sets are pairwise disjoint and cover the
  array, and one whole array reads, at each tile's part, what that tile wrote.
-/
module

public import proofs.«01_k».proof.Proof.TileBody

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of core `c`, subcore `j`. -/
def crdOf (c : Fin 2) (j : Fin 16) : grid0.Coords :=
  fun | 0 => c | 1 => j | ⟨_ + 2, h⟩ => absurd h (Nat.not_lt.2 (Nat.le_add_left _ _))

theorem crdOf_eta (i : grid0.Coords) : crdOf (i 0) (i 1) = i := by
  funext a
  match a with
  | 0 => rfl
  | 1 => rfl

/-- The grid point of the tile numbered `n`. -/
def crd (n : ℕ) : grid0.Coords := crdOf ⟨n / 16 % 2, Nat.mod_lt _ (by decide)⟩ ⟨n % 16, Nat.mod_lt _ (by decide)⟩

theorem crd_num (c : Fin 2) (j : Fin 16) : crd (16 * c.val + j.val) = crdOf c j := by
  unfold crd
  have h1 : (16 * c.val + j.val) / 16 % 2 = c.val := by omega
  have h2 : (16 * c.val + j.val) % 16 = j.val := by omega
  simp only [h1, h2]

/-- The array that reads `v i` at tile `i`'s part, by position. -/
def spread (n : ℕ) [NeZero n] (v : grid0.Coords → Vec F ⟨1, ![n]⟩ .f32) (k : ℕ) : F .f32 :=
  v (crd (k / n)) (fun a => ⟨k % n, by obtain rfl : a = 0 := Subsingleton.elim _ _; exact Nat.mod_lt _ (NeZero.pos n)⟩)

theorem spread_at (n : ℕ) [NeZero n] (v : grid0.Coords → Vec F ⟨1, ![n]⟩ .f32) (c : Fin 2) (j : Fin 16) (x : (⟨1, ![n]⟩ : Shape).Idx) :
    spread n v (n * (16 * c.val + j.val) + (x 0).val) = v (crdOf c j) x := by
  have hx : (x 0).val < n := (x 0).isLt
  have h1 : (n * (16 * c.val + j.val) + (x 0).val) / n = 16 * c.val + j.val := by
    rw [Nat.mul_add_div (NeZero.pos n), Nat.div_eq_of_lt hx, Nat.add_zero]
  have h2 : (n * (16 * c.val + j.val) + (x 0).val) % n = (x 0).val := by
    rw [Nat.mul_add_mod, Nat.mod_eq_of_lt hx]
  unfold spread
  rw [h1, crd_num]
  congr 1
  funext a
  obtain rfl : a = 0 := Subsingleton.elim _ _
  exact Fin.ext h2

theorem histOut_read (o : Memref sig .scVector .hbm S32768 .f32) (G : o.view.ty.Contents (Elt F)) (v : grid0.Coords → Vec F S1024 .f32)
    (hG : o.view.read (Elt F) G = fun y => spread 1024 v (y 0).val) (i : grid0.Coords) :
    (histOut o i).view.read (Elt F) G = v i := by
  funext x
  have e : (histOut o i).view.read (Elt F) G x
      = o.view.read (Elt F) G ((Rect.unit (s := S32768) (k0_off18 i) S1024.size (k0_off18_inb i)).emb x) := rfl
  rw [e, hG]
  have e2 : ((Rect.unit (s := S32768) (k0_off18 i) S1024.size (k0_off18_inb i)).emb x 0).val = 1024 * (16 * (i 0).val + (i 1).val) + (x 0).val := by
    show (k0_off18 i) 0 + 1 * (x 0).val = _
    rw [k0_off18_eq]
    show 16384 * (i 0).val + 1024 * (i 1).val + 1 * (x 0).val = _
    omega
  show spread 1024 v ((Rect.unit (s := S32768) (k0_off18 i) S1024.size (k0_off18_inb i)).emb x 0).val = _
  rw [e2]
  exact (spread_at 1024 v (i 0) (i 1) x).trans (by rw [crdOf_eta])

theorem sumsOut_read (o : Memref sig .scVector .hbm S1536 .f32) (G : o.view.ty.Contents (Elt F)) (v : grid0.Coords → Vec F S48 .f32)
    (hG : o.view.read (Elt F) G = fun y => spread 48 v (y 0).val) (i : grid0.Coords) :
    (sumsOut o i).view.read (Elt F) G = v i := by
  funext x
  have e : (sumsOut o i).view.read (Elt F) G x
      = o.view.read (Elt F) G ((Rect.unit (s := S1536) (k0_off19 i) S48.size (k0_off19_inb i)).emb x) := rfl
  rw [e, hG]
  have e2 : ((Rect.unit (s := S1536) (k0_off19 i) S48.size (k0_off19_inb i)).emb x 0).val = 48 * (16 * (i 0).val + (i 1).val) + (x 0).val := by
    show (k0_off19 i) 0 + 1 * (x 0).val = _
    rw [k0_off19_eq]
    show 768 * (i 0).val + 48 * (i 1).val + 1 * (x 0).val = _
    omega
  show spread 48 v ((Rect.unit (s := S1536) (k0_off19 i) S48.size (k0_off19_inb i)).emb x 0).val = _
  rw [e2]
  exact (spread_at 48 v (i 0) (i 1) x).trans (by rw [crdOf_eta])

/-- The element set of a tile's part of a histogram array, of a sums array. -/
abbrev hset (p : Fin 2 × Fin 16) : Finset S32768.Idx := (Rect.unit (s := S32768) (k0_off18 (crdOf p.1 p.2)) S1024.size (k0_off18_inb _)).set
abbrev sset (p : Fin 2 × Fin 16) : Finset S1536.Idx := (Rect.unit (s := S1536) (k0_off19 (crdOf p.1 p.2)) S48.size (k0_off19_inb _)).set

theorem mem_hset (p : Fin 2 × Fin 16) (y : S32768.Idx) : y ∈ hset p ↔ (y 0).val / 1024 = 16 * p.1.val + p.2.val := by
  rw [Rect.mem_set_unit]
  have e : k0_off18 (crdOf p.1 p.2) 0 = 16384 * p.1.val + 1024 * p.2.val := by rw [k0_off18_eq]; rfl
  constructor
  · intro h
    have h0 : k0_off18 (crdOf p.1 p.2) 0 ≤ (y 0).val ∧ (y 0).val < k0_off18 (crdOf p.1 p.2) 0 + 1024 := h 0
    omega
  · intro h a
    obtain rfl : a = 0 := Subsingleton.elim _ _
    show k0_off18 (crdOf p.1 p.2) 0 ≤ (y 0).val ∧ (y 0).val < k0_off18 (crdOf p.1 p.2) 0 + 1024
    omega

theorem mem_sset (p : Fin 2 × Fin 16) (y : S1536.Idx) : y ∈ sset p ↔ (y 0).val / 48 = 16 * p.1.val + p.2.val := by
  rw [Rect.mem_set_unit]
  have e : k0_off19 (crdOf p.1 p.2) 0 = 768 * p.1.val + 48 * p.2.val := by rw [k0_off19_eq]; rfl
  constructor
  · intro h
    have h0 : k0_off19 (crdOf p.1 p.2) 0 ≤ (y 0).val ∧ (y 0).val < k0_off19 (crdOf p.1 p.2) 0 + 48 := h 0
    omega
  · intro h a
    obtain rfl : a = 0 := Subsingleton.elim _ _
    show k0_off19 (crdOf p.1 p.2) 0 ≤ (y 0).val ∧ (y 0).val < k0_off19 (crdOf p.1 p.2) 0 + 48
    omega

/-- Element sets told apart by a tile number below thirty-two split whatever is held of the whole buffer. -/
theorem parts_split {ℓ : Loc nD τ sig} (K : Fin 2 × Fin 16 → Finset (Idx ℓ)) (num : Idx ℓ → ℕ) (hnum : ∀ y, num y < 32)
    (hK : ∀ p y, y ∈ K p ↔ num y = 16 * p.1.val + p.2.val) (f : Buf (Elt F) ℓ) :
    (ℓ ↦{fullShare} f : sProp 𝕄)
      = bigSep Finset.univ fun c : Fin 2 => bigSep Finset.univ fun j : Fin 16 => ℓ ↦[K (c, j)]{fullShare} f := by
  have hd : ∀ p ∈ (Finset.univ : Finset (Fin 2 × Fin 16)), ∀ p' ∈ (Finset.univ : Finset (Fin 2 × Fin 16)), p ≠ p' → Disjoint (K p) (K p') := by
    intro p _ p' _ hne
    refine Finset.disjoint_left.mpr fun y h h' => hne ?_
    rw [hK] at h h'
    have h1 := p.2.isLt
    have h2 := p'.2.isLt
    exact Prod.ext (Fin.ext (by omega)) (Fin.ext (by omega))
  have hc : (Finset.univ : Finset (Fin 2 × Fin 16)).biUnion K = Finset.univ := by
    refine Finset.eq_univ_iff_forall.mpr fun y => Finset.mem_biUnion.mpr ?_
    have h := hnum y
    refine ⟨(⟨num y / 16, by omega⟩, ⟨num y % 16, by omega⟩), Finset.mem_univ _, (hK _ _).mpr ?_⟩
    show num y = 16 * (num y / 16) + num y % 16
    omega
  rw [← hc, pointsTo_biUnion Finset.univ K hd, ← Finset.univ_product_univ, SparseCore.bigSep_product]

end Cert.Proof.Tile

end
-- ==== Proof.TileEq.lean ====
module

public import proofs.«01_k».proof.Proof.Tile
public import proofs.«01_k».proof.Proof.Gen.KernelIdeal.Skeleton

@[expose] public section

noncomputable section

namespace Cert.Proof.Tile

open Cert.KernelIdeal Cert.KernelIdeal.Gen Cert.KernelIdeal.Facts

open Idealize.ShloMosaic
open Idealize.SL.Sem

variable {F : FTy → Type} [FloatOps F]

theorem bindc {E : Type → Type 1} {α β : Type} {x x' : Prog E α} {f f' : α → Prog E β} (h : x = x') (hf : ∀ a, f a = f' a) :
    x >>= f = x' >>= f' := by
  rw [h]; congr 1; funext a; exact hf a

theorem finRange64 : List.finRange 64 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] := by decide

theorem finRange16 : List.finRange 16 = [0, 1, 2, 3, 4, 5, 6, 7, 8, 9, 10, 11, 12, 13, 14, 15] := by decide

set_option maxRecDepth 200000 in
set_option maxHeartbeats 40000000 in
/-- The printed task is `task`. -/
theorem sc_body_eq (i : grid0.Coords) :
    cc0__sc_body (F := F) i (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole main_v2_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scoped0 cc0_scoped1 cc0_scoped2 cc0_scoped3
      = task i := by
  have e : task (F := F) i = task (F := F) i := rfl
  conv at e => rhs; simp only [task, process, finRange64, finRange16, zeros, chunks, bind_assoc, pure_bind]
  rw [e]
  simp only [cc0__sc_body_eq_skeleton, cc0__sc_body_skel, k0_part75_eq_skeleton, k0_part75_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, bind_assoc, pure_bind]
  rfl

end Cert.Proof.Tile

end
-- ==== Proof.TileLaunch.lean ====
/-
  What the launch theorem asks about the tiles: the shares and the parts each is handed, its task from them, and the
  parts it hands back at their values.
-/
module

public import proofs.«01_k».proof.Proof.Regions
public import proofs.«01_k».proof.Proof.TileEq

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's arrays, as locations of device `d`. -/
abbrev aLoc (d : Dev nD) (b : Ref sig .tc) : Loc nD τ sig := (SparseCore.T d).loc b

/-! ## The shares -/

/-- Tile `i`'s share of a source, then each ring buffer's. -/
def qT (i : grid0.Coords) : PosShare TreeShare :=
  Transfers.dealOf (Transfers.dealOf fullShare (Finset.univ : Finset (Fin 2)) (i 0)) (Finset.univ : Finset (Fin 16)) (i 1)
def qR (i : grid0.Coords) (s : Fin 4) (ch : Fin 3) : PosShare TreeShare :=
  Transfers.dealOf (Transfers.dealOf (qT i) (Finset.univ : Finset (Fin 4)) s) (Finset.univ : Finset (Fin 3)) ch

/-- A whole buffer is its thirty-two shares. -/
theorem deal_tiles (ℓ : Loc nD τ sig) (f : Buf (Elt F) ℓ) :
    (ℓ ↦{fullShare} f : sProp 𝕄) = bigSep Finset.univ fun c : Fin 2 => bigSep Finset.univ fun j : Fin 16 => ℓ ↦{qT (crdOf c j)} f := by
  rw [Transfers.pointsTo_deal (Finset.univ : Finset (Fin 2)) Finset.univ_nonempty]
  refine bigSep_congr fun c _ => ?_
  rw [Transfers.pointsTo_deal (Finset.univ : Finset (Fin 16)) Finset.univ_nonempty]
  rfl

variable [FloatOps F]

theorem toks_intro (d : Dev nD) (i : grid0.Coords) (src : Memref sig .scVector .hbm S48x512x512 .f32) (X : Buf (Elt F) (src.view.loc (thr d i))) :
    (src.view.loc (thr d i) ↦{qT i} X : sProp 𝕄) ⊢ Toks d i src X (qR i) := by
  rw [Transfers.pointsTo_deal (Finset.univ : Finset (Fin 4)) Finset.univ_nonempty]
  rw [bigSep_congr fun s _ => Transfers.pointsTo_deal (Finset.univ : Finset (Fin 3)) Finset.univ_nonempty _]
  rw [bigSep_congr fun s _ => bigSep_univ_eq_bigSepL [0, 1, 2] (by decide) (by decide) _]
  rw [bigSep_univ_eq_bigSepL [0, 1, 2, 3] (by decide) (by decide) _]
  exact .rfl

/-! ## The scratch -/

theorem refsL_sep (Φ : Ref sig .scVector → sProp 𝕄) :
    bigSepL refsL Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8 ∗ Φ cc0_scratch9 ∗ Φ cc0_scratch10 ∗ Φ cc0_scratch11 ∗ Φ cc0_scratch12 ∗ Φ cc0_scratch13) := rfl
theorem semsL_sep (Φ : DmaSem sig → sProp 𝕄) :
    bigSepL semsL Φ = iprop(Φ (rsem 0) ∗ Φ (rsem 1) ∗ Φ (rsem 2) ∗ Φ (rsem 3) ∗ Φ cc0_scoped0.sem ∗ Φ cc0_scoped1.sem ∗ Φ cc0_scoped2.sem ∗ Φ cc0_scoped3.sem) := rfl

theorem scratch_eq (d : Dev nD) (i : grid0.Coords) :
    iprop(bigSepL refsL (fun b => iprop(∃ f, (thr d i).loc b ↦{fullShare} f)) ∗ bigSepL semsL (fun s => semVal (thr d i, SemLoc.dma s) 0))
      ⊣⊢ (iprop(Scratch d i ∗ ((semVal (thr d i, SemLoc.dma cc0_scoped0.sem) 0 ∗ semVal (thr d i, SemLoc.dma cc0_scoped1.sem) 0)
          ∗ (semVal (thr d i, SemLoc.dma cc0_scoped2.sem) 0 ∗ semVal (thr d i, SemLoc.dma cc0_scoped3.sem) 0))) : sProp 𝕄) := by
  have e : bigSepL refsL (fun b => (iprop(∃ f, (thr d i).loc b ↦{fullShare} f) : sProp 𝕄)) ⊣⊢ bigSepL refsL fun b => iprop(∃ v, Held (thr d i) (Memref.whole b) v) :=
    ⟨bigSepL_mono fun b _ => held_intro d i b, bigSepL_mono fun b _ => held_elim d i b⟩
  have e' := e
  rw [refsL_sep, refsL_sep] at e'
  rw [refsL_sep, semsL_sep]
  unfold Scratch Idle
  constructor
  · iintro ⟨HB, HS⟩
    ihave HB := e'.1 $$ HB
    icases HB with ⟨h0, h1, h2, h3, h4, h5, h6, h7, h8, h9, h10, h11, h12, h13⟩
    icases HS with ⟨s0, s1, s2, s3, s4, s5, s6, s7⟩
    isplitl [h0 h1 h2 h3 h4 h5 h6 h7 h8 h9 h10 h11 h12 h13 s0 s1 s2 s3]
    · isplitl [h0 h1 h2 s0]
      · isplitl [s0]; · iexact s0
        isplitl [h0]; · iexact h0
        isplitl [h1]; · iexact h1
        iexact h2
      isplitl [h3 h4 h5 s1]
      · isplitl [s1]; · iexact s1
        isplitl [h3]; · iexact h3
        isplitl [h4]; · iexact h4
        iexact h5
      isplitl [h6 h7 h8 s2]
      · isplitl [s2]; · iexact s2
        isplitl [h6]; · iexact h6
        isplitl [h7]; · iexact h7
        iexact h8
      isplitl [h9 h10 h11 s3]
      · isplitl [s3]; · iexact s3
        isplitl [h9]; · iexact h9
        isplitl [h10]; · iexact h10
        iexact h11
      isplitl [h12]; · iexact h12
      iexact h13
    · isplitl [s4 s5]
      · isplitl [s4]; · iexact s4
        iexact s5
      · isplitl [s6]; · iexact s6
        iexact s7
  · iintro ⟨⟨⟨s0, h0, h1, h2⟩, ⟨s1, h3, h4, h5⟩, ⟨s2, h6, h7, h8⟩, ⟨s3, h9, h10, h11⟩, h12, h13⟩, ⟨s4, s5⟩, ⟨s6, s7⟩⟩
    isplitl [h0 h1 h2 h3 h4 h5 h6 h7 h8 h9 h10 h11 h12 h13]
    · iapply e'.2
      isplitl [h0]; · iexact h0
      isplitl [h1]; · iexact h1
      isplitl [h2]; · iexact h2
      isplitl [h3]; · iexact h3
      isplitl [h4]; · iexact h4
      isplitl [h5]; · iexact h5
      isplitl [h6]; · iexact h6
      isplitl [h7]; · iexact h7
      isplitl [h8]; · iexact h8
      isplitl [h9]; · iexact h9
      isplitl [h10]; · iexact h10
      isplitl [h11]; · iexact h11
      isplitl [h12]; · iexact h12
      iexact h13
    · isplitl [s0]; · iexact s0
      isplitl [s1]; · iexact s1
      isplitl [s2]; · iexact s2
      isplitl [s3]; · iexact s3
      isplitl [s4]; · iexact s4
      isplitl [s5]; · iexact s5
      isplitl [s6]; · iexact s6
      iexact s7

/-! ## The tile's parts -/

/-- What the arrays hold after the call, from the sources' contents `X`, by tile. -/
def histG (d : Dev nD) (src : Memref sig .scVector .hbm S48x512x512 .f32) (X : (i : grid0.Coords) → Buf (Elt F) (src.view.loc (thr d i))) : Vec F S32768 .f32 :=
  fun y => spread 1024 (fun i => (procV d src i (X i)).1) (y 0).val
def sumsG (d : Dev nD) (src : Memref sig .scVector .hbm S48x512x512 .f32) (X : (i : grid0.Coords) → Buf (Elt F) (src.view.loc (thr d i))) : Vec F S1536 .f32 :=
  fun y => spread 48 (fun i => sums48 (procV d src i (X i)).2) (y 0).val

/-- Tile `(c, j)`'s part of the four result arrays. -/
def Parts (d : Dev nD) (c : Fin 2) (j : Fin 16) (f0 : Buf (Elt F) (aLoc d main_v2_0)) (f1 : Buf (Elt F) (aLoc d main_v2_1))
    (f2 : Buf (Elt F) (aLoc d main_v2_2)) (f3 : Buf (Elt F) (aLoc d main_v2_3)) : sProp 𝕄 :=
  iprop((aLoc d main_v2_0 ↦[hset (c, j)]{fullShare} f0) ∗ (aLoc d main_v2_1 ↦[hset (c, j)]{fullShare} f1)
    ∗ (aLoc d main_v2_2 ↦[sset (c, j)]{fullShare} f2) ∗ (aLoc d main_v2_3 ↦[sset (c, j)]{fullShare} f3))

theorem parts_all (d : Dev nD) (f0 : Buf (Elt F) (aLoc d main_v2_0)) (f1 : Buf (Elt F) (aLoc d main_v2_1))
    (f2 : Buf (Elt F) (aLoc d main_v2_2)) (f3 : Buf (Elt F) (aLoc d main_v2_3)) :
    (iprop((aLoc d main_v2_0 ↦{fullShare} f0) ∗ (aLoc d main_v2_1 ↦{fullShare} f1) ∗ (aLoc d main_v2_2 ↦{fullShare} f2) ∗ (aLoc d main_v2_3 ↦{fullShare} f3)) : sProp 𝕄)
      = bigSep Finset.univ fun c : Fin 2 => bigSep Finset.univ fun j : Fin 16 => Parts d c j f0 f1 f2 f3 := by
  unfold Parts
  simp only [Idealize.SL.BI.bigSep_sep']
  rw [parts_split (ℓ := aLoc d main_v2_0) hset (fun y => (y 0).val / 1024) (fun y => by have : (y 0).val < 32768 := (y 0).isLt; omega) mem_hset f0,
    parts_split (ℓ := aLoc d main_v2_1) hset (fun y => (y 0).val / 1024) (fun y => by have : (y 0).val < 32768 := (y 0).isLt; omega) mem_hset f1,
    parts_split (ℓ := aLoc d main_v2_2) sset (fun y => (y 0).val / 48) (fun y => by have : (y 0).val < 1536 := (y 0).isLt; omega) mem_sset f2,
    parts_split (ℓ := aLoc d main_v2_3) sset (fun y => (y 0).val / 48) (fun y => by have : (y 0).val < 1536 := (y 0).isLt; omega) mem_sset f3]

/-- Held at any contents, from a part of an array. -/
theorem held_some {t : Thread nD τ} {sp : Space} {s : Shape} {e : EltTy} (M : Memref sig t.2.kind sp s e) {A : Finset (Idx (M.view.loc t))} (hA : M.view.set = A)
    (f : Buf (Elt F) (M.view.loc t)) : (M.view.loc t ↦[A]{fullShare} f : sProp 𝕄) ⊢ iprop(∃ w, Held t M w) := by
  subst hA
  unfold Held
  iintro H
  iexists _, f
  isplitr; · ipureintro; rfl
  iexact H

/-- Held at a reading, as the part of an array that reads so. -/
theorem held_part {t : Thread nD τ} {sp : Space} {s : Shape} {e : EltTy} (M : Memref sig t.2.kind sp s e) {A : Finset (Idx (M.view.loc t))} (hA : M.view.set = A)
    (v : Vec F s e) (G : Buf (Elt F) (M.view.loc t)) (hG : M.view.read (Elt F) G = v) : Held t M v ⊢ (M.view.loc t ↦[A]{fullShare} G : sProp 𝕄) := by
  subst hA
  unfold Held
  iintro ⟨%f, %hf, H⟩
  have e := pointsTo_congr (nD := nD) (τ := τ) (sig := sig) (Ix := HIx 1) (Val := Elt F) (Name := ℕ) (U := UU) (Lvl := ℕ) (ℓ := M.view.loc t) (I := M.view.set) (q := fullShare) (f := f) (g := G) fun y hy => by
    obtain ⟨x, -, rfl⟩ := Finset.mem_map.mp hy
    have h := congrFun (hf.trans hG.symm) x
    rw [View.read_apply, View.read_apply] at h
    exact (cast_inj _).mp h
  iapply (Entails.of_eq e)
  iexact H

end Cert.Proof.Tile

end
-- ==== Proof.TileOb.lean ====
/-
  The obligations of the SparseCore call for the launch theorem: what each tile is handed and hands back, and that its
  task does so.
-/
module

public import proofs.«01_k».proof.Proof.TileLaunch
public import Idealize.ShloMosaic.Lib.SparseCore.Quiescent

@[expose] public section

noncomputable section

namespace Cert.Proof.Tile

open Cert.KernelIdeal Cert.KernelIdeal.Gen Cert.KernelIdeal.Facts

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/- The contents of the two sources on each device. -/
variable (X Y : (d : Dev nD) → Buf (Elt F) (aLoc d main_v0))

abbrev srcX : Memref sig .scVector .hbm S48x512x512 .f32 := Memref.whole main_v0_scv
abbrev srcY : Memref sig .scVector .hbm S48x512x512 .f32 := Memref.whole main_v1_scv

theorem whole_read2 (G : Vec F S1536 .f32) : (Memref.whole main_v2_2_scv).view.read (Elt F) G = G := rfl
theorem whole_read3 (G : Vec F S1536 .f32) : (Memref.whole main_v2_3_scv).view.read (Elt F) G = G := rfl
theorem sumsG_read2 (d : Dev nD) (src : Memref sig .scVector .hbm S48x512x512 .f32) (X : (i : grid0.Coords) → Buf (Elt F) (src.view.loc (thr d i))) :
    (Memref.whole main_v2_2_scv).view.read (Elt F) (sumsG d src X) = fun y => spread 48 (fun i => sums48 (procV d src i (X i)).2) (y 0).val :=
  (whole_read2 _).trans (by unfold sumsG; rfl)
theorem sumsG_read3 (d : Dev nD) (src : Memref sig .scVector .hbm S48x512x512 .f32) (X : (i : grid0.Coords) → Buf (Elt F) (src.view.loc (thr d i))) :
    (Memref.whole main_v2_3_scv).view.read (Elt F) (sumsG d src X) = fun y => spread 48 (fun i => sums48 (procV d src i (X i)).2) (y 0).val :=
  (whole_read3 _).trans (by unfold sumsG; rfl)

/-- What a tile is handed: its shares of the sources, its parts of the results at any contents. -/
def Gives (d : Dev nD) (c : Fin 2) (j : Fin 16) : sProp 𝕄 :=
  iprop((aLoc d main_v0 ↦{qT (crdOf c j)} X d) ∗ (aLoc d main_v1 ↦{qT (crdOf c j)} Y d) ∗ ∃ f0 f1 f2 f3, Parts d c j f0 f1 f2 f3)

/-- What it hands back: those parts at the values. -/
def Takes (d : Dev nD) (c : Fin 2) (j : Fin 16) : sProp 𝕄 :=
  Parts d c j (histG d srcX fun _ => X d) (histG d srcY fun _ => Y d) (sumsG d srcX fun _ => X d) (sumsG d srcY fun _ => Y d)

theorem tile_run (d : Dev nD) (c : Fin 2) (j : Fin 16) (O : CellTallies nD τ sig (HIx 1)) (W : Waits sig (HIx 1)) (hO : ∀ g, O g none = 0) :
    iprop(levAts (K (F := F)).L (K (F := F)).lev ∗ emp ∗ Gives X Y d c j ∗ scopedBufs (thr d (crdOf c j)) ∗ scopedSems0 (thr d (crdOf c j)) ∗ owes (thr d (crdOf c j)) O W)
      ⊢ wpT d (crdOf c j) (task (crdOf c j)) fun _ => iprop(Takes X Y d c j ∗ scopedBufs (thr d (crdOf c j)) ∗ scopedSems0 (thr d (crdOf c j))
          ∗ ∃ W', ⌜∀ p ∈ W', p ∈ W ∨ p.2 = none⌝ ∗ owes (thr d (crdOf c j)) O W') := by
  rw [(K (F := F)).scopedBufs_V facts d _ _, SparseCore.Cfg.scopedSems0_V (Val := Elt F) d _ _, ownSems0_take, ownBufs_take]
  unfold Gives Takes Parts
  iintro ⟨Hlv, -, ⟨HX, HY, %f0, %f1, %f2, %f3, H0, H1, H2, H3⟩, ⟨Hb, Hbr⟩, ⟨Hs, Hsr⟩, HO⟩
  ihave Hsc := (scratch_eq (F := F) d (crdOf c j)).1 $$ [Hb Hs]
  · isplitl [Hb] <;> iassumption
  icases Hsc with ⟨Hsc, Hse⟩
  iapply (task_wp d (crdOf c j) O W hO (X d) (Y d) (qR (crdOf c j)) (qR (crdOf c j)) _)
  isplitl [Hlv]; · iexact Hlv
  isplitl [Hsc]; · iexact Hsc
  isplitl [HX HY]
  · isplitl [HX]
    · iapply (toks_intro d (crdOf c j) srcX (X d)); iexact HX
    · iapply (toks_intro d (crdOf c j) srcY (Y d)); iexact HY
  isplitl [H0 H1 H2 H3]
  · isplitl [H0 H2]
    · isplitl [H0]
      · iapply (held_some (t := thr d (crdOf c j)) (histOut (Memref.whole main_v2_0_scv) (crdOf c j)) (View.set_slice_whole _ _) f0); iexact H0
      · iapply (held_some (t := thr d (crdOf c j)) (sumsOut (Memref.whole main_v2_2_scv) (crdOf c j)) (View.set_slice_whole _ _) f2); iexact H2
    · isplitl [H1]
      · iapply (held_some (t := thr d (crdOf c j)) (histOut (Memref.whole main_v2_1_scv) (crdOf c j)) (View.set_slice_whole _ _) f1); iexact H1
      · iapply (held_some (t := thr d (crdOf c j)) (sumsOut (Memref.whole main_v2_3_scv) (crdOf c j)) (View.set_slice_whole _ _) f3); iexact H3
  isplitl [Hse]; · iexact Hse
  isplitl [HO]
  · unfold Owes
    iexists W
    isplitr; · ipureintro; exact fun p hp => Or.inl hp
    iexact HO
  iintro ⟨Hsc, -, ⟨⟨H0, H2⟩, ⟨H1, H3⟩⟩, Hse, HO⟩
  isplitl [H0 H1 H2 H3]
  · isplitl [H0]
    · iapply (held_part (t := thr d (crdOf c j)) (histOut (Memref.whole main_v2_0_scv) (crdOf c j)) (View.set_slice_whole _ _) _
        (histG d srcX fun _ => X d) (histOut_read (Memref.whole main_v2_0_scv) _ (fun i => (procV d srcX i (X d)).1) rfl (crdOf c j))); iexact H0
    isplitl [H1]
    · iapply (held_part (t := thr d (crdOf c j)) (histOut (Memref.whole main_v2_1_scv) (crdOf c j)) (View.set_slice_whole _ _) _
        (histG d srcY fun _ => Y d) (histOut_read (Memref.whole main_v2_1_scv) _ (fun i => (procV d srcY i (Y d)).1) rfl (crdOf c j))); iexact H1
    isplitl [H2]
    · iapply (held_part (t := thr d (crdOf c j)) (sumsOut (Memref.whole main_v2_2_scv) (crdOf c j)) (View.set_slice_whole _ _) _
        (sumsG d srcX fun _ => X d) (sumsOut_read (Memref.whole main_v2_2_scv) _ _ (sumsG_read2 d srcX fun _ => X d) (crdOf c j))); iexact H2
    · iapply (held_part (t := thr d (crdOf c j)) (sumsOut (Memref.whole main_v2_3_scv) (crdOf c j)) (View.set_slice_whole _ _) _
        (sumsG d srcY fun _ => Y d) (sumsOut_read (Memref.whole main_v2_3_scv) _ _ (sumsG_read3 d srcY fun _ => Y d) (crdOf c j))); iexact H3
  ihave Hsc := (scratch_eq (F := F) d (crdOf c j)).2 $$ [Hsc Hse]
  · isplitl [Hsc] <;> iassumption
  icases Hsc with ⟨Hb, Hs⟩
  isplitl [Hb Hbr]
  · isplitl [Hb] <;> iassumption
  isplitl [Hs Hsr]
  · isplitl [Hs] <;> iassumption
  unfold Owes
  iexact HO

/-! ## The launch theorem's obligations -/

/-- What the handshakes carry. -/
def P : (K (F := F)).Pay (nD := nD) (Val := Elt F) (Name := ℕ) (U := UU) where
  st := fun q d c => match q with | 0 => bigSep Finset.univ fun j : Fin 16 => Gives X Y d c j
  dn := fun q d c => match q with | 0 => bigSep Finset.univ fun j : Fin 16 => Takes X Y d c j
  go := fun q d c j => match q with | 0 => Gives X Y d c j
  td := fun q d c j => match q with | 0 => Takes X Y d c j
  x := fun _ _ => iprop(emp)

instance Parts_storable (d : Dev nD) (c : Fin 2) (j : Fin 16) (f0 : Buf (Elt F) (aLoc d main_v2_0)) (f1 : Buf (Elt F) (aLoc d main_v2_1))
    (f2 : Buf (Elt F) (aLoc d main_v2_2)) (f3 : Buf (Elt F) (aLoc d main_v2_3)) : Storable (upEmb : UEmb _ 𝕄) (Parts d c j f0 f1 f2 f3) := by
  unfold Parts; infer_instance
instance Gives_storable (d : Dev nD) (c : Fin 2) (j : Fin 16) : Storable (upEmb : UEmb _ 𝕄) (Gives X Y d c j) := by unfold Gives; infer_instance
instance Takes_storable (d : Dev nD) (c : Fin 2) (j : Fin 16) : Storable (upEmb : UEmb _ 𝕄) (Takes X Y d c j) := by unfold Takes; infer_instance

instance P_storable : (P (F := F) X Y).IsStorable where
  st q d c := by match q with | 0 => exact (inferInstance : Storable (upEmb : UEmb _ 𝕄) (bigSep Finset.univ fun j : Fin 16 => Gives X Y d c j))
  dn q d c := by match q with | 0 => exact (inferInstance : Storable (upEmb : UEmb _ 𝕄) (bigSep Finset.univ fun j : Fin 16 => Takes X Y d c j))
  go q d c j := by match q with | 0 => exact (inferInstance : Storable (upEmb : UEmb _ 𝕄) (Gives X Y d c j))
  td q d c j := by match q with | 0 => exact (inferInstance : Storable (upEmb : UEmb _ 𝕄) (Takes X Y d c j))

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 () = SparseCore.onTile hcore0 hsub0 (fun c s => task (crdOf c s)) ⟨⟩ c s :=
  (show _ = SparseCore.onTile hcore0 hsub0 (fun c s => cc0__sc_body (F := F) (crdOf c s) (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole main_v2_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scoped0 cc0_scoped1 cc0_scoped2 cc0_scoped3) ⟨⟩ c s from rfl).trans
    (by simp only [sc_body_eq])

theorem tileObl : (K (F := F)).TileObl (D (F := F)) 𝒱 (P X Y) v₀ 0 := by
  intro d c i O W hO _ _
  simp only [show (P (F := F) X Y).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_run X Y d ⟨_, hc.1⟩ ⟨_, hc.2⟩ O W hO).trans (wp_mono frame _ _ fun _ => obl_post)

theorem vecSplit : (K (F := F)).VecSplit' (P X Y) 0 := by
  intro d c
  show iprop(bigSep Finset.univ fun j : Fin 16 => Gives X Y d c j) ⊢ |={Set.univ}=> iprop(
      (bigSep Finset.univ fun j : Fin 16 => Gives X Y d c j)
      ∗ ((bigSep Finset.univ fun j : Fin 16 => Takes X Y d c j) -∗ bigSep Finset.univ fun j : Fin 16 => Takes X Y d c j))
  iintro H; imodintro
  isplitl [H]; · iexact H
  iintro H; iexact H

end Cert.Proof.Tile

end
-- ==== Proof.Tail.lean ====
/-
  The TensorCore call that reduces the tiles' histograms and sums to the loss: its body run once over whole staging
  buffers, its proof data, and the call as a region of `main` entered from the five arrays and left with the last one at
  the loss.
-/
module

public import proofs.«01_k».proof.Proof.TileOb
public import proofs.«01_k».proof.Proof.Gen.KernelIdeal.Launch
public import Idealize.ShloMosaic.Lib.Pipeline.RegionArrays
public import Idealize.ShloMosaic.Lib.Tactic

@[expose] public section

noncomputable section

namespace Cert.Proof.Tile

open Cert.KernelIdeal Cert.KernelIdeal.Gen Cert.KernelIdeal.Facts

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F]

local notation "𝕄" => MT nD τ sig (HIx 1) (Elt F) ℕ UU ℕ

/-- The contents of memref `M` on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result's staging buffer, with the proof that it does. -/
noncomputable def tailRun (c : Dev nD) (f0 : Bf (F := F) c (stage1_0 0)) (f1 : Bf (F := F) c (stage1_1 0)) (f2 : Bf (F := F) c (stage1_2 0)) (f3 : Bf (F := F) c (stage1_3 0)) :
    { W : Bf (F := F) c (stage1_4 0) // ∀ (f4 : Bf (F := F) c (stage1_4 0)) (E : Set ℕ) (Q : PUnit → sProp 𝕄),
        iprop(pt c (stage1_0 0) f0 ∗ pt c (stage1_1 0) f1 ∗ pt c (stage1_2 0) f2 ∗ pt c (stage1_3 0) f3 ∗ pt c (stage1_4 0) f4
            ∗ (iprop(pt c (stage1_0 0) f0 ∗ pt c (stage1_1 0) f1 ∗ pt c (stage1_2 0) f2 ∗ pt c (stage1_3 0) f3 ∗ pt c (stage1_4 0) W) -∗ Q ⟨⟩))
          ⊢ wp frame (wpE (defs₀ (F := F)) Variants.none c none) E (cc1__tail_body (stage1_0 0) (hstage1_0 0) (stage1_1 0) (hstage1_1 0)
              (stage1_2 0) (hstage1_2 0) (stage1_3 0) (hstage1_3 0) (stage1_4 0) (hstage1_4 0)) Q } := by
  refine ⟨?_, fun f4 E Q => ?run⟩
  case run =>
    rw [cc1__tail_body_eq_skeleton]
    unfold cc1__tail_body_skel
    rw [k1_part1_eq_skeleton, k1_part2_eq_skeleton, k1_part3_eq_skeleton]
    unfold k1_part1_skel k1_part2_skel k1_part3_skel
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

/-! ## The region -/

theorem blk_read0 (G : Vec F S2x16x64x16 .f32) : ((cfg1.win 0).blk t1_0).view.read (Elt F) G = G :=
  funext fun x => congrArg G (funext fun a => Fin.ext (show 0 * S2x16x64x16.size a + 1 * (x a).val = (x a).val by omega))
theorem blk_read1 (G : Vec F S2x16x64x16 .f32) : ((cfg1.win 1).blk t1_0).view.read (Elt F) G = G :=
  funext fun x => congrArg G (funext fun a => Fin.ext (show 0 * S2x16x64x16.size a + 1 * (x a).val = (x a).val by omega))
theorem blk_read2 (G : Vec F S2x16x3x16 .f32) : ((cfg1.win 2).blk t1_0).view.read (Elt F) G = G :=
  funext fun x => congrArg G (funext fun a => Fin.ext (show 0 * S2x16x3x16.size a + 1 * (x a).val = (x a).val by omega))
theorem blk_read3 (G : Vec F S2x16x3x16 .f32) : ((cfg1.win 3).blk t1_0).view.read (Elt F) G = G :=
  funext fun x => congrArg G (funext fun a => Fin.ext (show 0 * S2x16x3x16.size a + 1 * (x a).val = (x a).val by omega))
theorem blk_read4 (G : Vec F S1x1 .f32) : ((cfg1.win 4).blk t1_0).view.read (Elt F) G = G :=
  funext fun x => congrArg G (funext fun a => Fin.ext (show 0 * S1x1.size a + 1 * (x a).val = (x a).val by omega))

/-- The proof data over the valuation each core enters with. -/
def tailDat (Vd : Dev nD → Valuation τ sig (Elt F)) (c : Dev nD) : Dat τ (Elt F) (HIx 1) ℕ UU ℕ cfg1 c where
  A w := Vd c (Proc.devRef .tc (Pipeline.arrRef spec1 w))
  after w _ := match w with
    | ⟨0, _⟩ => Vd c (Proc.devRef .tc main_v3)
    | ⟨1, _⟩ => Vd c (Proc.devRef .tc main_v4)
    | ⟨2, _⟩ => Vd c (Proc.devRef .tc main_v5)
    | ⟨3, _⟩ => Vd c (Proc.devRef .tc main_v6)
    | ⟨4, _⟩ => (tailRun c (Vd c (Proc.devRef .tc main_v3)) (Vd c (Proc.devRef .tc main_v4)) (Vd c (Proc.devRef .tc main_v5)) (Vd c (Proc.devRef .tc main_v6))).1
  Φ _ := BI.emp
  q _ := fullShare
  owed _ := 0
  recorded _ := {p | (K (F := F)).lev (c.tc, p.1) p.2 ≤ 8 * 1}

variable (Vd : Dev nD → Valuation τ sig (Elt F))

theorem tail_before0 (c : Dev nD) (d : (cfg1.win 0).block.Idx → Elt F (cfg1.win 0).elt) : (tailDat Vd c).before 0 t1_0 d = Vd c (Proc.devRef .tc main_v3) := by
  unfold Dat.before; rw [if_pos (by decide)]; exact blk_read0 (F := F) _
theorem tail_before1 (c : Dev nD) (d : (cfg1.win 1).block.Idx → Elt F (cfg1.win 1).elt) : (tailDat Vd c).before 1 t1_0 d = Vd c (Proc.devRef .tc main_v4) := by
  unfold Dat.before; rw [if_pos (by decide)]; exact blk_read1 (F := F) _
theorem tail_before2 (c : Dev nD) (d : (cfg1.win 2).block.Idx → Elt F (cfg1.win 2).elt) : (tailDat Vd c).before 2 t1_0 d = Vd c (Proc.devRef .tc main_v5) := by
  unfold Dat.before; rw [if_pos (by decide)]; exact blk_read2 (F := F) _
theorem tail_before3 (c : Dev nD) (d : (cfg1.win 3).block.Idx → Elt F (cfg1.win 3).elt) : (tailDat Vd c).before 3 t1_0 d = Vd c (Proc.devRef .tc main_v6) := by
  unfold Dat.before; rw [if_pos (by decide)]; exact blk_read3 (F := F) _

theorem tail_body (c : Dev nD) : BodyObligation (tailDat Vd c) (defs₀ (F := F)) 𝒱₀ (none : HIx 1) Set.univ := fun t => by
  obtain rfl := fin_N1 t
  rw [bigSep_W1, bigSep_W1]
  simp only [owns_whole_eq]
  rw [show (tailDat Vd c).owesAt none t1_0.succ = (tailDat Vd c).owesAt none t1_0.castSucc from rfl,
    show (tailDat Vd c).Φ t1_0.castSucc = BI.emp from rfl, show (tailDat Vd c).Φ t1_0.succ = BI.emp from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [tail_before0] at hf0; rw [tail_before1] at hf1; rw [tail_before2] at hf2; rw [tail_before3] at hf3
  subst hf0; subst hf1; subst hf2; subst hf3
  iapply ((tailRun c _ _ _ _).2 f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [tailDat]
  isplitl [H1]; · iexists _; isplitr; swap; (· iexact H1); ipureintro; dsimp only [tailDat]
  isplitl [H2]; · iexists _; isplitr; swap; (· iexact H2); ipureintro; dsimp only [tailDat]
  isplitl [H3]; · iexists _; isplitr; swap; (· iexact H3); ipureintro; dsimp only [tailDat]
  iexists _; isplitr; swap; (· iexact H4); ipureintro; dsimp only [tailDat]

abbrev adm : (p : Fin 1) → (pcfgs (F := F) p).Adm := fun p => (cfgs p).toPCfg_adm

def tailDats : (p : Fin 1) → (c : Dev nD) → Dat τ (Elt F) (HIx 1) ℕ UU ℕ (Pipeline.pin (pcfgs (F := F)) adm p) c
  | ⟨0, _⟩ => fun c => tailDat Vd c

/-- What the region leaves in the result's array. -/
def tailOut (c : Dev nD) : Buf (Elt F) ((c : Thread nD τ).loc main_v7) := (tailDat Vd c).arrAt 4 cfg1.N

/-- The valuation it leaves. -/
def tailV (c : Dev nD) : Valuation τ sig (Elt F) := Function.update (Vd c) (Proc.devRef .tc main_v7) (tailOut Vd c)

theorem tail_share (c : Dev nD) (w : Fin 5) : (tailDats Vd 0 c).share w = fullShare := (tailDats Vd 0 c).share_full (fun _ => rfl) w

theorem tail_in (c : Dev nD) (w : Fin 5) : (tailDats Vd 0 c).arrAt w 0 = Vd c (Proc.devRef .tc (Pipeline.arrRef spec1 w)) := rfl

theorem tail_out (c : Dev nD) (w : Fin 5) : (tailDats Vd 0 c).arrAt w cfg1.N = tailV Vd c (Proc.devRef .tc (Pipeline.arrRef spec1 w)) := by
  have keep (w : Fin 5) (h : (cfg1.win w).isOut = false) (hne : Proc.devRef (sig := sig) .tc (Pipeline.arrRef spec1 w) ≠ Proc.devRef .tc main_v7) :
      (tailDats Vd 0 c).arrAt w cfg1.N = tailV Vd c (Proc.devRef .tc (Pipeline.arrRef spec1 w)) :=
    (Dat.arrAt_in (tailDat Vd c) w h _).trans (Function.update_of_ne hne _ _).symm
  fin_cases w
  · exact keep 0 rfl (by decide)
  · exact keep 1 rfl (by decide)
  · exact keep 2 rfl (by decide)
  · exact keep 3 rfl (by decide)
  · show tailOut Vd c = tailV Vd c (Proc.devRef .tc main_v7)
    unfold tailV; rw [Function.update_self]

/-- What the core owes between its calls. -/
def Between (c : Dev nD) : sProp 𝕄 :=
  iprop(∃ W, ⌜(K (F := F)).WBelow (SparseCore.T c) W (8 * 1)⌝ ∗ owes (c : Thread nD τ) (0 : CellTallies nD τ sig (HIx 1)) W)

set_option backward.isDefEq.respectTransparency.types false in
def tailSeg : Pipeline.RegionSeg (pcfgs (F := F)) adm (tailDats Vd) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (tail_body Vd c).loose
  hwaits := Pipeline.hwaits_of_owed_zero _ _ _ _ (K (F := F)).L (K (F := F)).lev 0 fun _ _ => rfl
  pre c := iprop(StableHlo.held (c.tc : Thread nD τ) (Pipeline.arrRefs spec1) (Vd c) ∗ Between c)
  post c := iprop(StableHlo.held (c.tc : Thread nD τ) (Pipeline.arrRefs spec1) (tailV Vd c) ∗ Between c)
  X _ := BI.emp
  Y _ := BI.emp
  Z _ := BI.emp
  hentry c := by
    have e := Pipeline.arrays_held (pcfgs (F := F)) adm (tailDats Vd) 0 launch1.toP c (tail_share Vd c) ((tailDats Vd 0 c).arrAt · 0) (Vd c) (tail_in Vd c)
    rw [Pipeline.ownSems0_none]
    iintro ⟨⟨Ha, HO⟩, -, -⟩
    ihave Ha := (Entails.of_eq e.symm) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Between
      icases HO with ⟨%W, %hW, HO⟩; iexists W; isplitr; · ipureintro; exact fun p hp => Or.inl (hW p hp)
      iexact HO
    isplitr <;> iempintro
  hin c := by
    rw [show (tailDats Vd 0 c).Φ 0 = BI.emp from rfl]
    iintro -; iempintro
  hout c := by
    rw [Pipeline.ownSems0_none, show (tailDats Vd 0 c).Φ (Fin.last _) = BI.emp from rfl]
    iintro -
    isplitr; · iempintro
    isplitr; · iempintro
    iapply (Entails.of_eq (scopedRest1_eq (Ix := HIx 1) (Val := Elt F) (Name := ℕ) (U := UU) (Lvl := ℕ) c).symm)
    iempintro
  hexit c := by
    have e := Pipeline.arrays_held (pcfgs (F := F)) adm (tailDats Vd) 0 launch1.toP c (tail_share Vd c) ((tailDats Vd 0 c).arrAt · cfg1.N) (tailV Vd c) (tail_out Vd c)
    iintro ⟨Ha, HO, -, -⟩
    ihave Ha := (Entails.of_eq e) $$ Ha
    imodintro
    isplitl [Ha]; · iexact Ha
    unfold Pipeline.Dat.owesAt Pipeline.owesWithin Between
    icases HO with ⟨%W, %hW, HO⟩; iexists W; isplitr
    · ipureintro
      intro p hp
      rcases hW hp with h | ⟨w, s, rfl⟩
      · exact h
      · exact Nat.zero_le _
    iexact HO

end Cert.Proof.Tile

end
-- ==== Proof.Run.lean ====
/-
  The program's run: what its threads are dealt, the TensorCore's main from the two reshapes to the last one, and
  the run's end, over any float values.
-/
module

public import proofs.«01_k».proof.Proof.Tail

@[expose] public section

noncomputable section

namespace Cert.Proof.Tile

open Cert.KernelIdeal Cert.KernelIdeal.Gen Cert.KernelIdeal.Facts

open Idealize.ShloMosaic
open Idealize.ShloMosaic.Pipeline (Dat)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The ghost state -/

/-- The calls' handshakes. -/
abbrev EH : Emb UH (MT nD τ sig (HIx 1) (Elt F) ℕ UU ℕ) := embL
/-- The tail's staging cells. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev pinned := Pipeline.pin (pcfgs (F := F)) adm

theorem pinned_inj : Function.Injective (Pipeline.cellOf (nD := nD) (τ := τ) (pinned (F := F))) := launch1.toP.cellOf_inj adm

def u₀ : UU := (initOf (K (F := F)).hsCells (K (F := F)).hsToks,
  (initOf (Pipeline.cells (pinned (F := F)) pinned_inj) (Pipeline.launchToks (pinned (F := F)) pinned_inj), 1))

omit [FloatOps F] in
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What a device's main is dealt for its tail. -/
def G (d : Dev nD) : sProp 𝕄 := iprop(Pipeline.cellsGhost (pinned (F := F)) EP 0 d ∗ Pipeline.toksInit (pinned (F := F)) EP 0 d)

variable (m : (ℓ : Loc nD τ sig) → Buf (Elt F) ℓ) (ρ : Dev nD → PrngReg)

/-! ## The valuations -/

abbrev opX : HloOp τ sig (Elt F) := StableHlo.reshape main_arg0 main_v0 (rfl : (.f32 : EltTy) = .f32) shapeCasts_S16x3x512x512_S48x512x512
abbrev opY : HloOp τ sig (Elt F) := StableHlo.reshape main_arg1 main_v1 (rfl : (.f32 : EltTy) = .f32) shapeCasts_S16x3x512x512_S48x512x512
abbrev op3 : HloOp τ sig (Elt F) := StableHlo.reshape main_v2_0 main_v3 (rfl : (.f32 : EltTy) = .f32) shapeCasts_S32768_S2x16x64x16
abbrev op4 : HloOp τ sig (Elt F) := StableHlo.reshape main_v2_1 main_v4 (rfl : (.f32 : EltTy) = .f32) shapeCasts_S32768_S2x16x64x16
abbrev op5 : HloOp τ sig (Elt F) := StableHlo.reshape main_v2_2 main_v5 (rfl : (.f32 : EltTy) = .f32) shapeCasts_S1536_S2x16x3x16
abbrev op6 : HloOp τ sig (Elt F) := StableHlo.reshape main_v2_3 main_v6 (rfl : (.f32 : EltTy) = .f32) shapeCasts_S1536_S2x16x3x16
abbrev op8 : HloOp τ sig (Elt F) := StableHlo.reshape main_v7 main_v8 (rfl : (.f32 : EltTy) = .f32) shapeCasts_S1x1_S_

abbrev dr (b : Ref sig .tc) : DevRef τ sig := Proc.devRef .tc b

def V0 (d : Dev nD) : Valuation τ sig (Elt F) := fun b => m (d, b)
def V2 (d : Dev nD) : Valuation τ sig (Elt F) := opY.result (opX.result (V0 m d))
def X (d : Dev nD) : Buf (Elt F) (aLoc d main_v0) := V2 m d (dr main_v0)
def Y (d : Dev nD) : Buf (Elt F) (aLoc d main_v1) := V2 m d (dr main_v1)
/-- The four results of the SparseCore call. -/
def Hx (d : Dev nD) : Buf (Elt F) (aLoc d main_v2_0) := histG d srcX fun _ => X m d
def Hy (d : Dev nD) : Buf (Elt F) (aLoc d main_v2_1) := histG d srcY fun _ => Y m d
def Sx (d : Dev nD) : Buf (Elt F) (aLoc d main_v2_2) := sumsG d srcX fun _ => X m d
def Sy (d : Dev nD) : Buf (Elt F) (aLoc d main_v2_3) := sumsG d srcY fun _ => Y m d
def V3 (d : Dev nD) : Valuation τ sig (Elt F) :=
  Function.update (Function.update (Function.update (Function.update (V2 m d) (dr main_v2_0) (Hx m d)) (dr main_v2_1) (Hy m d)) (dr main_v2_2) (Sx m d)) (dr main_v2_3) (Sy m d)
def V7 (d : Dev nD) : Valuation τ sig (Elt F) := op6.result (op5.result (op4.result (op3.result (V3 m d))))
def V8 (d : Dev nD) : Valuation τ sig (Elt F) := tailV (V7 m) d
def V9 (d : Dev nD) : Valuation τ sig (Elt F) := op8.result (V8 m d)

/-! ## The sets of buffers -/

abbrev All : Finset (DevRef τ sig) := Pipeline.ucRefs τ sig
def Src : Finset (DevRef τ sig) := {dr main_v0, dr main_v1}
def Res : Finset (DevRef τ sig) := {dr main_v2_0, dr main_v2_1, dr main_v2_2, dr main_v2_3}
abbrev Kept : Finset (DevRef τ sig) := All \ Src

theorem mem_all {b : Ref sig .tc} (h : b.isScoped = false) : dr b ∈ All :=
  Finset.mem_filter.mpr ⟨StableHlo.devRef_mem_tcRefs b, fun h' => Bool.noConfusion (h'.symm.trans h)⟩
theorem not_mem_src {b : Ref sig .tc} (h0 : b ≠ main_v0) (h1 : b ≠ main_v1) : dr b ∉ Src := by
  unfold Src dr
  simp only [Finset.mem_insert, Finset.mem_singleton, not_or]
  exact ⟨fun h => h0 (Proc.devRef_injective _ h), fun h => h1 (Proc.devRef_injective _ h)⟩
theorem mem_kept {b : Ref sig .tc} (h : b.isScoped = false) (h0 : b ≠ main_v0) (h1 : b ≠ main_v1) : dr b ∈ Kept :=
  Finset.mem_sdiff.mpr ⟨mem_all h, not_mem_src h0 h1⟩

theorem src_sub : Src ⊆ All := by
  unfold Src; intro b hb
  simp only [Finset.mem_insert, Finset.mem_singleton] at hb
  rcases hb with rfl | rfl <;> exact mem_all rfl
theorem res_sub : Res ⊆ Kept := by
  unfold Res; intro b hb
  simp only [Finset.mem_insert, Finset.mem_singleton] at hb
  rcases hb with rfl | rfl | rfl | rfl <;> exact mem_kept rfl (by decide) (by decide)
theorem arr_sub : Pipeline.arrRefs (τ := τ) spec1 ⊆ Kept := by
  intro b hb
  obtain ⟨r, hr, rfl⟩ := Finset.mem_map.mp hb
  obtain ⟨w, -, rfl⟩ := Finset.mem_image.mp hr
  fin_cases w <;> exact mem_kept rfl (by decide) (by decide)

theorem held_src (d : Dev nD) (V : Valuation τ sig (Elt F)) :
    (StableHlo.held (SparseCore.T d) Src V : sProp 𝕄) = iprop((aLoc d main_v0 ↦{fullShare} V (dr main_v0)) ∗ aLoc d main_v1 ↦{fullShare} V (dr main_v1)) := by
  unfold StableHlo.held Src
  rw [SparseCore.bigSep_insert' (by decide), bigSep_singleton]
theorem held_res (d : Dev nD) (V : Valuation τ sig (Elt F)) :
    (StableHlo.held (SparseCore.T d) Res V : sProp 𝕄) = iprop((aLoc d main_v2_0 ↦{fullShare} V (dr main_v2_0)) ∗ (aLoc d main_v2_1 ↦{fullShare} V (dr main_v2_1))
      ∗ (aLoc d main_v2_2 ↦{fullShare} V (dr main_v2_2)) ∗ aLoc d main_v2_3 ↦{fullShare} V (dr main_v2_3)) := by
  unfold StableHlo.held Res
  rw [SparseCore.bigSep_insert' (by decide), SparseCore.bigSep_insert' (by decide), SparseCore.bigSep_insert' (by decide), bigSep_singleton]

/-! ## The SparseCore call's operands and results -/

theorem st_intro (d : Dev nD) :
    iprop((StableHlo.held (SparseCore.T d) Src (V2 m d) : sProp 𝕄) ∗ StableHlo.held (SparseCore.T d) Res (V2 m d))
      ⊢ bigSep Finset.univ fun c : Fin ((K (F := F)).nCore 0) => (P (X m) (Y m)).st 0 d c := by
  show _ ⊢ bigSep Finset.univ fun c : Fin 2 => bigSep Finset.univ fun j : Fin 16 => Gives (X m) (Y m) d c j
  rw [held_src, held_res, parts_all, deal_tiles (aLoc d main_v0), deal_tiles (aLoc d main_v1)]
  unfold Gives
  have hj (c : Fin 2) : iprop((bigSep Finset.univ fun j : Fin 16 => aLoc d main_v0 ↦{qT (crdOf c j)} V2 m d (dr main_v0))
      ∗ (bigSep Finset.univ fun j : Fin 16 => aLoc d main_v1 ↦{qT (crdOf c j)} V2 m d (dr main_v1))
      ∗ bigSep Finset.univ fun j : Fin 16 => Parts d c j (V2 m d (dr main_v2_0)) (V2 m d (dr main_v2_1)) (V2 m d (dr main_v2_2)) (V2 m d (dr main_v2_3)))
      ⊢ (bigSep Finset.univ fun j : Fin 16 => iprop((aLoc d main_v0 ↦{qT (crdOf c j)} X m d) ∗ (aLoc d main_v1 ↦{qT (crdOf c j)} Y m d) ∗ ∃ f0 f1 f2 f3, Parts d c j f0 f1 f2 f3) : sProp 𝕄) := by
    rw [← Idealize.SL.BI.bigSep_sep', ← Idealize.SL.BI.bigSep_sep']
    refine bigSep_mono fun j _ => ?_
    change BIBase.Entails (PROP := sProp 𝕄) _ _
    iintro ⟨HX, HY, HP⟩
    isplitl [HX]; · iexact HX
    isplitl [HY]; · iexact HY
    iexists _, _, _, _; iexact HP
  refine BI.Entails.trans ?_ (bigSep_mono fun c _ => hj c)
  rw [Idealize.SL.BI.bigSep_sep', Idealize.SL.BI.bigSep_sep']
  change BIBase.Entails (PROP := sProp 𝕄) _ _
  iintro ⟨⟨HX, HY⟩, HP⟩
  isplitl [HX]; · iexact HX
  isplitl [HY]; · iexact HY
  iexact HP

theorem V3_res (d : Dev nD) : (StableHlo.held (SparseCore.T d) Res (V3 m d) : sProp 𝕄)
    = bigSep Finset.univ fun c : Fin 2 => bigSep Finset.univ fun j : Fin 16 => Parts d c j (Hx m d) (Hy m d) (Sx m d) (Sy m d) := by
  rw [held_res, ← parts_all]
  have h0 : V3 m d (dr main_v2_0) = Hx m d := by
    unfold V3
    rw [Function.update_of_ne (by decide), Function.update_of_ne (by decide), Function.update_of_ne (by decide), Function.update_self]
  have h1 : V3 m d (dr main_v2_1) = Hy m d := by
    unfold V3
    rw [Function.update_of_ne (by decide), Function.update_of_ne (by decide), Function.update_self]
  have h2 : V3 m d (dr main_v2_2) = Sx m d := by
    unfold V3
    rw [Function.update_of_ne (by decide), Function.update_self]
  have h3 : V3 m d (dr main_v2_3) = Sy m d := by
    unfold V3
    rw [Function.update_self]
  rw [h0, h1, h2, h3]

theorem dn_elim (d : Dev nD) : (bigSep Finset.univ fun c : Fin ((K (F := F)).nCore 0) => (P (X m) (Y m)).dn 0 d c)
    ⊢ (StableHlo.held (SparseCore.T d) Res (V3 m d) : sProp 𝕄) := by
  rw [V3_res]
  exact BI.Entails.refl _

theorem V3_off (d : Dev nD) : (StableHlo.held (SparseCore.T d) (Kept \ Res) (V2 m d) : sProp 𝕄) = StableHlo.held (SparseCore.T d) (Kept \ Res) (V3 m d) := by
  refine StableHlo.held_congr _ fun b hb => ?_
  have hn := (Finset.mem_sdiff.mp hb).2
  unfold Res at hn
  simp only [Finset.mem_insert, Finset.mem_singleton, not_or] at hn
  unfold V3
  rw [Function.update_of_ne hn.2.2.2, Function.update_of_ne hn.2.2.1, Function.update_of_ne hn.2.1, Function.update_of_ne hn.1]

theorem V8_off (d : Dev nD) : (StableHlo.held (SparseCore.T d) (Kept \ Pipeline.arrRefs spec1) (V7 m d) : sProp 𝕄)
    = StableHlo.held (SparseCore.T d) (Kept \ Pipeline.arrRefs spec1) (V8 m d) := by
  refine StableHlo.held_congr _ fun b hb => ?_
  have hn := (Finset.mem_sdiff.mp hb).2
  unfold V8 tailV
  rw [Function.update_of_ne]
  rintro rfl
  exact hn (Finset.mem_map.mpr ⟨_, Finset.mem_image.mpr ⟨4, Finset.mem_univ _, rfl⟩, rfl⟩)

/-! ## @main on the TensorCore -/

abbrev wpM (d : Dev nD) {α : Type} (p : Prog (TpuEff nD τ sig (Elt F) (SparseCore.Sig (ΛP (F := F)) 1) .tc) α) (Φ : α → sProp 𝕄) : sProp 𝕄 :=
  wp frame (wpE ((K (F := F)).defs (D (F := F))) 𝒱 (SparseCore.T d) none) Set.univ p Φ

theorem host_step (d : Dev nD) {op : HloOp τ sig (Elt F)} {S : Finset (DevRef τ sig)} (hS : op.bufs ⊆ S) (hf : op.fresh = ∅) (V : Valuation τ sig (Elt F)) (Φ : PUnit → sProp 𝕄) :
    iprop(boundary (SparseCore.T d) ∗ (StableHlo.held (SparseCore.T d) S V)
      ∗ ((boundary (SparseCore.T d) ∗ StableHlo.held (SparseCore.T d) S (op.result V)) -∗ Φ ⟨⟩))
      ⊢ wpM d (hlo rfl op fun _ => .ret ⟨⟩) Φ := by
  iintro ⟨Hb, Hh, Hk⟩
  iapply (StableHlo.wp_hlo_within 𝒱 (SparseCore.T d) none Set.univ (op := op) (S := S) hS (V := V) (hf := hf)) $$ [Hb Hh]
  · isplitl [Hb] <;> iassumption
  iintro H
  rw [wp_ret]
  imodintro
  iapply Hk; iexact H

theorem sub_all (op : HloOp τ sig (Elt F)) (h : op.bufs ⊆ StableHlo.tcRefs τ sig) : op.bufs ⊆ All := Pipeline.sub_ucRefs op h

theorem reshape_sub {x y : Ref sig .tc} {S : Finset (DevRef τ sig)} (hx : dr x ∈ S) (hy : dr y ∈ S) : ({dr x, dr y} : Finset (DevRef τ sig)) ⊆ S := by
  intro b hb
  simp only [Finset.mem_insert, Finset.mem_singleton] at hb
  rcases hb with rfl | rfl <;> assumption

abbrev FIN (d : Dev nD) : sProp 𝕄 := StableHlo.held (SparseCore.T d) Kept (V9 m d)

theorem tc_open (d : Dev nD) : ((K (F := F)).tcSt EH d 1 : sProp 𝕄) ⊢ iprop(Between (F := F) d ∗ (Between (F := F) d -∗ (K (F := F)).tcSt EH d 1)) := by
  unfold SparseCore.Cfg.tcSt Between
  rw [(K (F := F)).Otc_end d (le_refl 1)]
  iintro ⟨HO, Hr⟩
  isplitl [HO]; · iexact HO
  iintro HO
  isplitl [HO]; · iexact HO
  iexact Hr

variable [∀ e, Nonempty (Elt F e)]

abbrev tailCall : Prog (TpuEff nD τ sig (Elt F) (ΛP (F := F)) .tc) PUnit := .op (.customCall (Pipeline.entry 0) ()) .ret

theorem tail_lift (d : Dev nD) (Φ : PUnit → sProp 𝕄) :
    wp frame (wpE (D (F := F)) 𝒱 (SparseCore.T d) none) Set.univ tailCall Φ ⊢ wpM d (Prog.lift (.customCall (SparseCore.inner (Pipeline.entry 0)) ())) Φ := by
  have e : (Prog.lift (.customCall (SparseCore.inner (Pipeline.entry 0)) ()) : Prog (TpuEff nD τ sig (Elt F) (SparseCore.Sig (ΛP (F := F)) 1) .tc) PUnit)
      = SparseCore.liftProg (tailCall (F := F)) := rfl
  rw [e]
  exact (K (F := F)).wp_liftProg (D (F := F)) 𝒱 (SparseCore.T d) Set.univ none tailCall Φ

theorem tail_pre (V : Dev nD → Valuation τ sig (Elt F)) (d : Dev nD) :
    (tailSeg V).pre d = iprop(StableHlo.held (SparseCore.T d) (Pipeline.arrRefs spec1) (V d) ∗ Between d) := by
  unfold tailSeg; rfl
theorem tail_post (V : Dev nD → Valuation τ sig (Elt F)) (d : Dev nD) :
    (tailSeg V).post d = iprop(StableHlo.held (SparseCore.T d) (Pipeline.arrRefs spec1) (tailV V d) ∗ Between d) := by
  unfold tailSeg; rfl

theorem tail_step (d : Dev nD) (V : Dev nD → Valuation τ sig (Elt F)) (Φ : PUnit → sProp 𝕄) :
    iprop((iprop(boundary (SparseCore.T d) ∗ StableHlo.held (SparseCore.T d) (Pipeline.arrRefs spec1) (tailV V d) ∗ Between d) -∗ Φ ⟨⟩)
        ∗ boundary (SparseCore.T d) ∗ (StableHlo.held (SparseCore.T d) (Pipeline.arrRefs spec1) (V d) ∗ Between d) ∗ levAts (K (F := F)).L (K (F := F)).lev ∗ G d)
      ⊢ wpM d (Prog.lift (.customCall (SparseCore.inner (Pipeline.entry 0)) ())) Φ := by
  refine BI.Entails.trans ?_ (tail_lift d Φ)
  refine BI.Entails.trans ?_ ((tailSeg V).wp (pcfgs (F := F)) adm (tailDats V) none pinned_inj EP defs₀ 𝒱₀ (K (F := F)).L (K (F := F)).lev d none (fun _ h => nomatch h) .ret Φ)
  unfold G
  change BIBase.Entails (PROP := sProp 𝕄) _ _
  rw [tail_pre, tail_post]
  iintro ⟨Hk, Hb, Hpre, Hlv, Hg, Ht⟩
  isplitl [Hk]
  · iintro H
    rw [wp_ret]
    imodintro
    iapply Hk; iexact H
  isplitl [Hb]; · iexact Hb
  isplitl [Hpre]; · iexact Hpre
  isplitl [Hlv]; · iexact Hlv
  isplitl [Hg]; · iexact Hg
  iexact Ht

theorem hmain (κ : GSem nD τ sig → ℕ) (d : Dev nD) :
    iprop((K (F := F)).ctx EH (P (X m) (Y m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) All (V0 m d) from Pipeline.unscopedBufs_held d (V0 m d)]
  simp only [main, wp_bind, wp_pure]
  iintro ⟨#Hctx, Hst, ⟨Hb, Hh, Hts, -⟩, HG⟩
  iapply (host_step d (op := opX) (S := All) (reshape_sub (mem_all rfl) (mem_all rfl)) rfl _ _)
  isplitl [Hb]; · iexact Hb
  isplitl [Hh]; · iexact Hh
  iintro ⟨Hb, Hh⟩
  iapply (host_step d (op := opY) (S := All) (reshape_sub (mem_all rfl) (mem_all rfl)) rfl _ _)
  isplitl [Hb]; · iexact Hb
  isplitl [Hh]; · iexact Hh
  iintro ⟨Hb, Hh⟩
  have e1 : (StableHlo.held (SparseCore.T d) All (opY.result (opX.result (V0 m d))) : sProp 𝕄)
      = iprop(StableHlo.held (SparseCore.T d) Src (V2 m d) ∗ StableHlo.held (SparseCore.T d) Res (V2 m d) ∗ StableHlo.held (SparseCore.T d) (Kept \ Res) (V3 m d)) := by
    rw [show opY.result (opX.result (V0 m d)) = V2 m d from rfl, StableHlo.held_sub_split _ src_sub, StableHlo.held_sub_split _ res_sub, V3_off]
  ihave Hh := (Entails.of_eq e1) $$ Hh
  icases Hh with ⟨Hsrc, Hres, Hrest⟩
  iapply ((K (F := F)).wp_run (D (F := F)) 𝒱 (EH := EH) (P := P (X m) (Y m)) κ d 0) $$ [Hst Hsrc Hres Hrest Hb Hts HG]
  isplitr; · iexact Hctx
  isplitl [Hst]; · iexact Hst
  isplitl [Hsrc Hres]
  · iapply (st_intro m d)
    isplitl [Hsrc] <;> iassumption
  iintro ⟨Hst, Hdn⟩
  ihave Hres := (dn_elim m d) $$ Hdn
  have e3 : iprop((StableHlo.held (SparseCore.T d) Res (V3 m d) : sProp 𝕄) ∗ StableHlo.held (SparseCore.T d) (Kept \ Res) (V3 m d)) = StableHlo.held (SparseCore.T d) Kept (V3 m d) := by
    rw [StableHlo.held_sub_split _ res_sub]
  ihave Hh := (Entails.of_eq e3) $$ [Hres Hrest]
  · isplitl [Hres] <;> iassumption
  iapply (host_step d (op := op3) (S := Kept) (reshape_sub (mem_kept rfl (by decide) (by decide)) (mem_kept rfl (by decide) (by decide))) rfl _ _)
  isplitl [Hb]; · iexact Hb
  isplitl [Hh]; · iexact Hh
  iintro ⟨Hb, Hh⟩
  iapply (host_step d (op := op4) (S := Kept) (reshape_sub (mem_kept rfl (by decide) (by decide)) (mem_kept rfl (by decide) (by decide))) rfl _ _)
  isplitl [Hb]; · iexact Hb
  isplitl [Hh]; · iexact Hh
  iintro ⟨Hb, Hh⟩
  iapply (host_step d (op := op5) (S := Kept) (reshape_sub (mem_kept rfl (by decide) (by decide)) (mem_kept rfl (by decide) (by decide))) rfl _ _)
  isplitl [Hb]; · iexact Hb
  isplitl [Hh]; · iexact Hh
  iintro ⟨Hb, Hh⟩
  iapply (host_step d (op := op6) (S := Kept) (reshape_sub (mem_kept rfl (by decide) (by decide)) (mem_kept rfl (by decide) (by decide))) rfl _ _)
  isplitl [Hb]; · iexact Hb
  isplitl [Hh]; · iexact Hh
  iintro ⟨Hb, Hh⟩
  have e7 : (StableHlo.held (SparseCore.T d) Kept (op6.result (op5.result (op4.result (op3.result (V3 m d))))) : sProp 𝕄)
      = iprop(StableHlo.held (SparseCore.T d) (Pipeline.arrRefs spec1) (V7 m d) ∗ StableHlo.held (SparseCore.T d) (Kept \ Pipeline.arrRefs spec1) (V8 m d)) := by
    rw [show op6.result (op5.result (op4.result (op3.result (V3 m d)))) = V7 m d from rfl, StableHlo.held_sub_split _ arr_sub, V8_off]
  ihave Hh := (Entails.of_eq e7) $$ Hh
  icases Hh with ⟨Harr, Hrest⟩
  ihave Hst := (show ((K (F := F)).tcSt EH d ((0 : Fin 1).val + 1) : sProp 𝕄) ⊢ _ from tc_open (F := F) d) $$ Hst
  icases Hst with ⟨HO, Hcl⟩
  iapply (tail_step d (V7 m) _)
  isplitr [Hb Harr HO HG]
  · iintro ⟨Hb, Harr, HO⟩
    ihave Hst := Hcl $$ HO
    have e8 : iprop((StableHlo.held (SparseCore.T d) (Pipeline.arrRefs spec1) (tailV (V7 m) d) : sProp 𝕄) ∗ StableHlo.held (SparseCore.T d) (Kept \ Pipeline.arrRefs spec1) (V8 m d))
        = StableHlo.held (SparseCore.T d) Kept (V8 m d) := by
      rw [show tailV (V7 m) d = V8 m d from rfl, StableHlo.held_sub_split (S := Kept) _ arr_sub]
    ihave Hh := (Entails.of_eq e8) $$ [Harr Hrest]
    · isplitl [Harr] <;> iassumption
    iapply (host_step d (op := op8) (S := Kept) (reshape_sub (mem_kept rfl (by decide) (by decide)) (mem_kept rfl (by decide) (by decide))) rfl _ _)
    isplitl [Hb]; · iexact Hb
    isplitl [Hh]; · iexact Hh
    iintro ⟨Hb, Hh⟩
    imodintro
    isplitl [Hst]; · iexact Hst
    isplitl [Hh]; · iexact Hh
    isplitl [Hb] <;> iassumption
  isplitl [Hb]; · iexact Hb
  isplitl [Harr HO]
  · isplitl [Harr] <;> iassumption
  isplitr; · iapply (SparseCore.Cfg.ctx_levAts κ); iexact Hctx
  iexact HG

/-! ## The end of the run -/

/-- The arguments unchanged and the loss at its value. -/
def fq (d : Dev nD) (s' : Phys nD τ sig (Elt F)) : Prop :=
  (s'.mem.mem (aLoc d main_arg0) = m (aLoc d main_arg0) ∧ s'.mem.mem (aLoc d main_arg1) = m (aLoc d main_arg1)) ∧ s'.mem.mem (aLoc d main_v8) = V9 m d (dr main_v8)

/-- A buffer none of the program's steps writes holds what it held. -/
theorem V9_kept (d : Dev nD) (a : Ref sig .tc) (ha : a ∉ [main_v0, main_v1, main_v2_0, main_v2_1, main_v2_2, main_v2_3, main_v3, main_v4, main_v5, main_v6, main_v7, main_v8]) :
    V9 m d (dr a) = m (d, dr a) := by
  simp only [List.mem_cons, List.not_mem_nil, or_false, not_or] at ha
  obtain ⟨h0, h1, h20, h21, h22, h23, h3, h4, h5, h6, h7, h8⟩ := ha
  have hne {b : Ref sig .tc} (h : a ≠ b) : dr a ≠ dr b := fun e => h (Proc.devRef_injective _ e)
  unfold V9 V8 tailV V7 V3 V2 V0
  rw [(op8 (F := F)).result_of_not_mem _ (Finset.notMem_singleton.mpr (hne h8)), Function.update_of_ne (hne h7),
    (op6 (F := F)).result_of_not_mem _ (Finset.notMem_singleton.mpr (hne h6)), (op5 (F := F)).result_of_not_mem _ (Finset.notMem_singleton.mpr (hne h5)),
    (op4 (F := F)).result_of_not_mem _ (Finset.notMem_singleton.mpr (hne h4)), (op3 (F := F)).result_of_not_mem _ (Finset.notMem_singleton.mpr (hne h3)),
    Function.update_of_ne (hne h23), Function.update_of_ne (hne h22), Function.update_of_ne (hne h21), Function.update_of_ne (hne h20),
    (opY (F := F)).result_of_not_mem _ (Finset.notMem_singleton.mpr (hne h1)), (opX (F := F)).result_of_not_mem _ (Finset.notMem_singleton.mpr (hne h0))]

theorem held_take {S : Finset (DevRef τ sig)} (d : Dev nD) (V : Valuation τ sig (Elt F)) {b : Ref sig .tc} (hb : dr b ∈ S) (s' : Phys nD τ sig (Elt F)) :
    iprop((StableHlo.held (SparseCore.T d) S V : sProp 𝕄) ∗ SI s') ⊢ ⌜s'.mem.mem (aLoc d b) = V (dr b)⌝ := by
  have e : (StableHlo.held (SparseCore.T d) S V : sProp 𝕄) ⊢ aLoc d b ↦{fullShare} V (dr b) := bigSep_elim hb
  iintro ⟨Hh, HSI⟩
  ihave H := e $$ Hh
  ihave H := (SI_pointsTo_agree (st := s') (ℓ := aLoc d b) (I := Finset.univ) (q := fullShare) (f := V (dr b))) $$ [HSI H]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have h0 := held_take d (V9 m d) (b := main_arg0) (mem_kept rfl (by decide) (by decide)) s'
  have h1 := held_take d (V9 m d) (b := main_arg1) (mem_kept rfl (by decide) (by decide)) s'
  have h8 := held_take d (V9 m d) (b := main_v8) (mem_kept rfl (by decide) (by decide)) s'
  rw [V9_kept m d main_arg0 (by decide)] at h0
  rw [V9_kept m d main_arg1 (by decide)] at h1
  iintro H
  ihave H := (persistent_entails_right h0) $$ H
  icases H with ⟨%e0, H⟩
  ihave H := (persistent_entails_right h1) $$ H
  icases H with ⟨%e1, H⟩
  ihave H := h8 $$ H
  icases H with %e8
  ipureintro; exact ⟨⟨e0, e1⟩, e8⟩

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (X m) (Y m)).x q thr) := by
  unfold u₀
  iintro Hu
  ihave H := (ownU_split _ _) $$ Hu
  icases H with ⟨HH, HP⟩
  imod (Pipeline.fund_ghost (pinned (F := F)) EP pinned_inj) $$ HP with ⟨Hg, Ht⟩
  imodintro
  isplitl [HH]; · iexact HH
  isplitl [Hg Ht]
  · have e : iprop((bigSep Finset.univ fun c : Dev nD => bigSep Finset.univ fun p : Fin 1 => (Pipeline.cellsGhost (pinned (F := F)) EP p c : sProp 𝕄))
        ∗ (bigSep Finset.univ fun c : Dev nD => bigSep Finset.univ fun p : Fin 1 => (Pipeline.toksInit (pinned (F := F)) EP p c : sProp 𝕄)))
        = bigSep Finset.univ fun d : Dev nD => G d := by
      unfold G
      rw [← Idealize.SL.BI.bigSep_sep']
      refine bigSep_congr fun d _ => ?_
      rw [bigSep_univ_of_subsingleton (0 : Fin 1), bigSep_univ_of_subsingleton (0 : Fin 1)]
    iapply (Entails.of_eq e)
    isplitl [Hg] <;> iassumption
  have e : (bigSep Finset.univ fun thr : Thread nD τ => bigSep Finset.univ fun q : Fin 1 => (P (X m) (Y m)).x q thr) = (BI.emp : sProp 𝕄) := by
    show (bigSep Finset.univ fun thr : Thread nD τ => bigSep Finset.univ fun q : Fin 1 => (BI.emp : sProp 𝕄)) = BI.emp
    simp only [bigSep_emp_const]
  iapply (Entails.of_eq e.symm)
  iempintro

/-- What the run ends in: on every device the arguments unchanged and the loss at its value, every counter at zero. -/
def QC : PUnit × MemSt nD τ sig (Elt F) → Prop := fun r =>
  (∀ c : Dev nD, (r.2.mem (aLoc c main_arg0) = m (aLoc c main_arg0) ∧ r.2.mem (aLoc c main_arg1) = m (aLoc c main_arg1)) ∧ r.2.mem (aLoc c main_v8) = V9 m c (dr main_v8))
    ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m) (Y m)) (A := ∅) facts v₀
    (fun q hq => match q with | 0 => nomatch hq)
    (fun q _ => match q with | 0 => tileObl (X m) (Y m))
    (fun q _ => match q with | 0 => SparseCore.Cfg.VecSplit.of_plain (vecSplit (X m) (Y m)))
    m ρ main G (FIN m) (u₀ (F := F)) (sep_elim_left.trans (hu₀ m)) (hmain m ρ) (fq m) (hfin m) (QC m) (fun _ h hz => ⟨h, hz⟩)

end Cert.Proof.Tile

end
-- ==== Proof.Same.lean ====
/-
  The kernel's two printed programs have one text. The SparseCore task of each is `task`; the tail and everything above
  them is compared constant by constant, and the body tables and threads are then equal.
-/
module

public import proofs.«01_k».proof.Proof.TileEq
public import proofs.«01_k».proof.Proof.Run
public import proofs.«01_k».proof.Proof.Gen.Kernel
public import proofs.«01_k».proof.Proof.Gen.Kernel.Skeleton

@[expose] public section

noncomputable section

namespace Cert.Proof.Tile

open Cert.Kernel Cert.Kernel.Gen Cert.Kernel.Facts

open Idealize.ShloMosaic
open Idealize.SL.Sem

variable {F : FTy → Type} [FloatOps F]

set_option maxRecDepth 200000 in
set_option maxHeartbeats 40000000 in
/-- The task of the first printed program is `task` too. -/
theorem sc_body_eq_printed (i : grid0.Coords) :
    cc0__sc_body (F := F) i (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole main_v2_3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scoped0 cc0_scoped1 cc0_scoped2 cc0_scoped3
      = task i := by
  have e : task (F := F) i = task (F := F) i := rfl
  conv at e => rhs; simp only [task, process, finRange64, finRange16, zeros, chunks, bind_assoc, pure_bind]
  rw [e]
  simp only [cc0__sc_body_eq_skeleton, cc0__sc_body_skel, k0_part75_eq_skeleton, k0_part75_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, bind_assoc, pure_bind]
  rfl

end Cert.Proof.Tile

namespace Cert.Proof.Tile

open Idealize.ShloMosaic
open Idealize.SL.Sem

variable {F : FTy → Type} [FloatOps F]

set_option maxHeartbeats 4000000 in
theorem tail1_same : @Cert.Kernel.k1_part1 F _ _ = @Cert.KernelIdeal.k1_part1 F _ _ := by
  funext a ha b hb c hc d hd e he
  rw [Cert.Kernel.Gen.k1_part1_eq_skeleton, Cert.KernelIdeal.Gen.k1_part1_eq_skeleton]
  rfl
set_option maxHeartbeats 4000000 in
theorem tail2_same : @Cert.Kernel.k1_part2 F _ _ = @Cert.KernelIdeal.k1_part2 F _ _ := by
  funext a ha b hb c hc d hd e he _ _
  rw [Cert.Kernel.Gen.k1_part2_eq_skeleton, Cert.KernelIdeal.Gen.k1_part2_eq_skeleton]
  rfl
set_option maxHeartbeats 4000000 in
theorem tail3_same : @Cert.Kernel.k1_part3 F _ _ = @Cert.KernelIdeal.k1_part3 F _ _ := by
  funext a ha b hb c hc d hd e he _ _ _ _ _ _ _ _ _
  rw [Cert.Kernel.Gen.k1_part3_eq_skeleton, Cert.KernelIdeal.Gen.k1_part3_eq_skeleton]
  rfl
set_option maxHeartbeats 4000000 in
theorem tail_same : @Cert.Kernel.cc1__tail_body F _ _ = @Cert.KernelIdeal.cc1__tail_body F _ _ := by
  funext a ha b hb c hc d hd e he
  rw [Cert.Kernel.Gen.cc1__tail_body_eq_skeleton, Cert.KernelIdeal.Gen.cc1__tail_body_eq_skeleton]
  unfold Cert.Kernel.Gen.cc1__tail_body_skel Cert.KernelIdeal.Gen.cc1__tail_body_skel
  rw [tail1_same, tail2_same, tail3_same]

set_option maxHeartbeats 4000000 in
theorem defs₀_same : @Cert.Kernel.defs₀ F _ _ = @Cert.KernelIdeal.defs₀ F _ _ := by
  funext p ℓ a
  match p, ℓ, a with
  | .scVector c s, 0, _ =>
    unfold Cert.Kernel.defs₀ Cert.KernelIdeal.defs₀
    dsimp only
    simp only [sc_body_eq, sc_body_eq_printed]
    rfl
  | .tc, 1, (t, s) =>
    unfold Cert.Kernel.defs₀ Cert.KernelIdeal.defs₀
    dsimp only
    rw [tail_same]
    rfl
  | .tc, 0, _ => rfl
  | .scScalar c, 0, _ => rfl
  | .scScalar c, 1, _ => rfl
  | .scVector c s, 1, _ => rfl

set_option maxHeartbeats 4000000 in
theorem defs_same : @Cert.Kernel.defs F _ _ = @Cert.KernelIdeal.defs F _ _ := by
  unfold Cert.Kernel.defs Cert.KernelIdeal.defs
  rw [defs₀_same]
  rfl

set_option maxHeartbeats 4000000 in
theorem main_same : @Cert.Kernel.main F _ = @Cert.KernelIdeal.main F _ := rfl

set_option maxHeartbeats 4000000 in
theorem threads_same : @Cert.Kernel.threads F _ = @Cert.KernelIdeal.threads F _ := by
  unfold Cert.Kernel.threads Cert.KernelIdeal.threads
  rw [main_same]
  rfl

set_option maxHeartbeats 4000000 in
theorem run_printed (m : (l : Loc Cert.KernelIdeal.nD Cert.KernelIdeal.τ Cert.KernelIdeal.sig) → Buf (Elt F) l) (ρ) [∀ e, Nonempty (Elt F e)] :
    θ_run (Cert.Kernel.defs (F := F)) (Cert.Kernel.threads (F := F)) ⟨m, fun _ => 0, ρ⟩ (QC m) := by
  rw [defs_same, threads_same]
  exact run_main m ρ

end Cert.Proof.Tile

end
-- ==== Proof.BinMath.lean ====
/-
  The histogram bin of one luminance, twice: the kernel truncates the luminance times 64 to a word and takes one off when
  nothing was cut; the reference counts the edges `0, 1/64, …, 1` below the luminance and takes one off. Clipped to 0..63 the two
  are one number, at the infinities too, except where the product is -2^31 exactly: there the word minus one wraps around.
-/
module

public import proofs.«01_k».proof.Proof.TileBase
public import Idealize.ShloMosaic.PureOps.Ideal.Laws

@[expose] public section

noncomputable section

namespace Cert.Proof.Val

open Idealize.ShloMosaic Cert.Proof.Tile

/-- How many of the 65 edges are below a luminance. -/
def edgesBelow (l : EReal) : ℕ := (Finset.univ.filter fun i : Fin 65 => (((i.val : ℝ) / 64 : ℝ) : EReal) < l).card
/-- The bin of a luminance. -/
def binOf (l : EReal) : ℕ := min (edgesBelow l - 1) 63

theorem binOf_lt (l : EReal) : binOf l < 64 := by unfold binOf; omega
theorem edgesBelow_le (l : EReal) : edgesBelow l ≤ 65 := by
  unfold edgesBelow
  exact (Finset.card_filter_le _ _).trans (by simp)

/-- The kernel's bin word, before it is clipped, of the luminance times 64. -/
def binWord (t : EReal) : BitVec 32 :=
  IntOp.subi (Ideal.fptosi 32 t) (if Ideal.cmp .oeq ((((Ideal.fptosi 32 t).toInt : ℝ)) : EReal) t = 1#1 then 1#32 else 0#32)

/-- Clipping a word, as a number. -/
theorem clip63_val (w : BitVec 32) : (clip63 w).toNat = (max 0 (min 63 w.toInt)).toNat := by
  unfold clip63 IntOp.minsi IntOp.maxsi
  simp only [BitVec.slt, decide_eq_true_eq]
  have h0 : (0#32 : BitVec 32).toInt = 0 := rfl
  have h63 : (63#32 : BitVec 32).toInt = 63 := rfl
  have n0 : (0#32 : BitVec 32).toNat = 0 := rfl
  have n63 : (63#32 : BitVec 32).toNat = 63 := rfl
  rw [h0, h63]
  have e := BitVec.toInt_eq_toNat_cond w
  have hw := w.isLt
  split
  · split
    · split at e <;> omega
    · rw [n63]; omega
  · rw [h0]
    simp only [show (0 : Int) < 63 by decide, if_true, n0]
    omega

/-- The reference clips in the other order. -/
theorem clipRef_val (w : BitVec 32) : (IntOp.minsi 63#32 (IntOp.maxsi 0#32 w)).toNat = (max 0 (min 63 w.toInt)).toNat := by
  unfold IntOp.minsi IntOp.maxsi
  simp only [BitVec.slt, decide_eq_true_eq]
  have h0 : (0#32 : BitVec 32).toInt = 0 := rfl
  have h63 : (63#32 : BitVec 32).toInt = 63 := rfl
  have n0 : (0#32 : BitVec 32).toNat = 0 := rfl
  have n63 : (63#32 : BitVec 32).toNat = 63 := rfl
  rw [h0, h63]
  have e := BitVec.toInt_eq_toNat_cond w
  have hw := w.isLt
  by_cases h : (0 : Int) < w.toInt
  · have h' : ¬ w.toInt < 0 := by omega
    simp only [h', if_false]
    split
    · rw [n63]; omega
    · split at e <;> omega
  · by_cases h' : w.toInt < 0
    · simp only [h', if_true, h0, show ¬ (63 : Int) < 0 by decide, if_false, n0]; omega
    · simp only [h', if_false]
      have hz : w.toInt = 0 := by omega
      rw [hz]
      simp only [show ¬ (63 : Int) < 0 by decide, if_false]
      split at e <;> omega

/-- The truncated product, a number in the word's range. -/
def cut (t : EReal) : ℤ := Ideal.toIntClamped (-(2 ^ 31)) (2 ^ 31 - 1) t

theorem cut_range (t : EReal) : -(2 ^ 31) ≤ cut t ∧ cut t ≤ 2 ^ 31 - 1 := by
  unfold cut
  induction t with
  | bot => simp
  | top => simp
  | coe r => rw [Ideal.toIntClamped_coe]; constructor <;> omega

theorem fptosi_toInt (t : EReal) : (Ideal.fptosi 32 t).toInt = cut t := by
  have h := cut_range t
  have e : Ideal.fptosi 32 t = BitVec.ofInt 32 (cut t) := rfl
  rw [e, BitVec.toInt_ofInt, Int.bmod_def]
  omega

theorem binWord_toInt (t : EReal) (h : t ≠ ((-(2 ^ 31) : ℝ) : EReal)) :
    (binWord t).toInt = cut t - (if (((cut t : ℤ) : ℝ) : EReal) = t then 1 else 0) := by
  have hr := cut_range t
  unfold binWord IntOp.subi
  rw [fptosi_toInt]
  have hc : (Ideal.cmp .oeq (((cut t : ℤ) : ℝ) : EReal) t = 1#1) ↔ (((cut t : ℤ) : ℝ) : EReal) = t := by
    unfold Ideal.cmp
    by_cases e : (((cut t : ℤ) : ℝ) : EReal) = t <;> simp [e]
  simp only [hc]
  rw [BitVec.toInt_sub, fptosi_toInt]
  by_cases e : (((cut t : ℤ) : ℝ) : EReal) = t
  · have hne : cut t ≠ -(2 ^ 31) := by
      intro h'
      rw [h'] at e
      apply h
      rw [← e]
      norm_num
    simp only [e, if_true]
    rw [show (1#32 : BitVec 32).toInt = 1 from rfl, Int.bmod_def]
    omega
  · simp only [e, if_false]
    rw [show (0#32 : BitVec 32).toInt = 0 from rfl, Int.bmod_def]
    omega

theorem edge_lt (i : ℕ) (r : ℝ) : ((((i : ℝ) / 64 : ℝ) : EReal) < (r : EReal)) ↔ (i : ℝ) < r * 64 := by
  rw [EReal.coe_lt_coe_iff, div_lt_iff₀ (by norm_num)]

theorem card_lt (n : ℕ) (hn : n ≤ 65) : (Finset.univ.filter fun i : Fin 65 => i.val < n).card = n := by
  have h := Fintype.card_congr (Fin.castLEquiv hn : Fin n ≃ {i : Fin 65 // i.val < n})
  rw [Fintype.card_fin, Fintype.card_subtype] at h
  exact h.symm

/-- Between 0 and 63 the count is the ceiling; above, at least 64; at or below zero, none. -/
theorem edgesBelow_coe (r : ℝ) : edgesBelow (r : EReal) = min 65 (⌈r * 64⌉.toNat) := by
  unfold edgesBelow
  rw [← card_lt (min 65 (⌈r * 64⌉.toNat)) (by omega)]
  refine congrArg Finset.card (Finset.filter_congr fun i _ => ?_)
  rw [edge_lt]
  have h : ((i.val : ℤ) < ⌈r * 64⌉) ↔ (i.val : ℝ) < r * 64 := by
    rw [Int.lt_ceil]; push_cast; rfl
  rw [← h]
  have := i.isLt
  omega

theorem edgesBelow_top : edgesBelow ⊤ = 65 := by
  unfold edgesBelow
  rw [Finset.filter_true_of_mem (fun i _ => EReal.coe_lt_top _)]
  simp
theorem edgesBelow_bot : edgesBelow ⊥ = 0 := by
  unfold edgesBelow
  rw [Finset.filter_false_of_mem (fun i _ => not_lt_bot)]
  simp

/-- The kernel's clipped word is the bin. -/
theorem bin_kernel (l : EReal) (h : l * ((64 : ℝ) : EReal) ≠ ((-(2 ^ 31) : ℝ) : EReal)) :
    (clip63 (binWord (l * ((64 : ℝ) : EReal)))).toNat = binOf l := by
  rw [clip63_val, binWord_toInt _ h]
  unfold binOf
  induction l with
  | bot =>
    have e : (⊥ : EReal) * ((64 : ℝ) : EReal) = ⊥ := EReal.bot_mul_coe_of_pos (by norm_num)
    rw [e, edgesBelow_bot]
    simp [cut]
  | top =>
    have e : (⊤ : EReal) * ((64 : ℝ) : EReal) = ⊤ := EReal.top_mul_coe_of_pos (by norm_num)
    rw [e, edgesBelow_top]
    simp [cut]
  | coe r =>
    rw [edgesBelow_coe]
    rw [← EReal.coe_mul] at h ⊢
    generalize r * 64 = t at h ⊢
    have hc : cut (t : EReal) = max (-(2 ^ 31)) (min (2 ^ 31 - 1) (if 0 ≤ t then ⌊t⌋ else ⌈t⌉)) := rfl
    by_cases h0 : 0 < t
    · rw [if_pos h0.le] at hc
      have hf0 : 0 ≤ ⌊t⌋ := Int.floor_nonneg.2 h0.le
      have hle := Int.floor_le_ceil t
      have hce : ⌈t⌉ ≤ ⌊t⌋ + 1 := Int.ceil_le_floor_add_one t
      by_cases e : (((cut (t : EReal) : ℤ) : ℝ) : EReal) = (t : EReal)
      · rw [if_pos e]
        have e' : ((cut (t : EReal) : ℤ) : ℝ) = t := EReal.coe_injective e
        have hfl : ⌊t⌋ = cut (t : EReal) := by conv_lhs => rw [← e']; exact Int.floor_intCast _
        have hcl : ⌈t⌉ = cut (t : EReal) := by conv_lhs => rw [← e']; exact Int.ceil_intCast _
        have hpos : 0 < ⌈t⌉ := Int.ceil_pos.2 h0
        omega
      · rw [if_neg e]
        by_cases hb : ⌊t⌋ ≤ 2 ^ 31 - 1
        · have hcf : cut (t : EReal) = ⌊t⌋ := by omega
          have hne : ⌈t⌉ ≠ ⌊t⌋ := by
            intro he
            apply e
            rw [hcf]
            refine congrArg _ (le_antisymm (Int.floor_le t) ?_)
            rw [← he]; exact Int.le_ceil t
          omega
        · omega
    · have hcl : ⌈t⌉ ≤ 0 := Int.ceil_le.2 (by push_cast; exact not_lt.1 h0)
      have hfl : ⌊t⌋ ≤ 0 := le_trans (Int.floor_le_ceil t) hcl
      have : cut (t : EReal) ≤ 0 := by split at hc <;> omega
      split <;> omega

/-- The reference's clipped word is the bin. -/
theorem bin_ref (l : EReal) :
    (IntOp.minsi 63#32 (IntOp.maxsi 0#32 (IntOp.subi (BitVec.ofNat 32 (edgesBelow l)) 1#32))).toNat = binOf l := by
  have hn := edgesBelow_le l
  rw [clipRef_val]
  unfold binOf IntOp.subi
  have e : (BitVec.ofNat 32 (edgesBelow l)).toInt = edgesBelow l := by
    rw [BitVec.toInt_eq_toNat_cond, BitVec.toNat_ofNat]
    split <;> omega
  rw [BitVec.toInt_sub, e, show (1#32 : BitVec 32).toInt = 1 from rfl, Int.bmod_def]
  omega

end Cert.Proof.Val
-- ==== Proof.HistVal.lean ====
/-
  What one SparseCore task computes, over the extended reals: each entry of its histogram is the number of its pixels of that
  bin in that lane, and each lane of its three sums is the sum of that lane's pixels of the channel.
-/
module

public import proofs.«01_k».proof.Proof.BinMath
public import Idealize.ShloMosaic.Lib.Pointwise
public import Idealize.ShloMosaic.Lib.IdealHost

@[expose] public section

noncomputable section

namespace Cert.Proof.Val

open Idealize.ShloMosaic Cert.Proof.Tile Cert.KernelIdeal Cert.KernelIdeal.Gen Cert.KernelIdeal.Facts

/-! ## Pixels -/

/-- A pixel's value scaled from `[-1, 1]` to `[0, 1]`. -/
def unitOf (a : EReal) : EReal := (a + 1) * Ideal.ofBits .f32 0x3F000000#32
/-- The luminance of three scaled channels. -/
def lumOf (r g b : EReal) : EReal :=
  (unitOf r * Ideal.ofBits .f32 0x3E991687#32 + unitOf g * Ideal.ofBits .f32 0x3F1645A2#32) + unitOf b * Ideal.ofBits .f32 0x3DE978D5#32

theorem ofBits_64 : Ideal.ofBits .f32 0x42800000#32 = ((64 : ℝ) : EReal) := by
  simp [Ideal.ofBits, Ideal.ieee]
  rw [← EReal.coe_mul]
  norm_num

/-- A pixel with the luminance times 64 not exactly -2^31. -/
def NoWrap (l : EReal) : Prop := l * ((64 : ℝ) : EReal) ≠ ((-(2 ^ 31) : ℝ) : EReal)

/-! ## One trip -/

theorem lane_ix (x : S16.Idx) : lane (x 0).val = x := by
  funext a
  obtain rfl : a = 0 := Subsingleton.elim _ _
  exact Fin.ext (Nat.mod_eq_of_lt (x 0).isLt)

/-- Adding one at lane `k`'s address. -/
def addLane (w : IVec S16 32) (h : ∀ a x, ((![w] : Fin 1 → IVec S16 32) a x).toNat < S1024.size a) (g : Vec Ideal S1024 .f32) (k : Fin 16) :
    Vec Ideal S1024 .f32 := fun j =>
  if (∀ a, (j a).val = (idxAt ![w] h (Shape.ofLane (d := ![16]) k) a).val) then
    (g (idxAt ![w] h (Shape.ofLane (d := ![16]) k)) : EReal) + Ideal.ofBits .f32 0x3F800000#32 else g j

theorem storeIdx_eq (f : Vec Ideal S1024 .f32) (w : IVec S16 32) (h : ∀ a x, ((![w] : Fin 1 → IVec S16 32) a x).toNat < S1024.size a) :
    storeIdx f ![w] (k0_pay130 (F := Ideal)) (fun _ => 1#1) true h = (List.finRange 16).foldl (addLane w h) f := by
  unfold storeIdx
  refine congrArg (fun step => List.foldl step f (List.finRange 16)) (funext fun g => funext fun k => ?_)
  refine (if_pos (show (1#1 : BitVec 1) = 1 from rfl)).trans ?_
  funext j
  unfold addLane
  by_cases hc : ∀ a, (j a).val = (idxAt (s := S1024) ![w] h (Shape.ofLane (d := ![16]) k) a).val
  · exact (if_pos hc).trans (Eq.trans rfl (if_pos hc).symm)
  · exact (if_neg hc).trans (if_neg hc).symm

/-- Adding one at each lane's own address adds, at each entry, whether its lane's address is that entry. -/
theorem storeIdx_lanes (f : Vec Ideal S1024 .f32) (w : IVec S16 32) (h : ∀ a x, ((![w] : Fin 1 → IVec S16 32) a x).toNat < S1024.size a)
    (b : S16.Idx → ℕ) (hw : ∀ y, (w y).toNat = b y * 16 + (y 0).val) (x : S1024.Idx) :
    storeIdx f ![w] (k0_pay130 (F := Ideal)) (fun _ => 1#1) true h x
      = (f x : EReal) + if b (lane (x 0).val) = (x 0).val / 16 then 1 else 0 := by
  let l0 : Fin 16 := ⟨(x 0).val % 16, Nat.mod_lt _ (by decide)⟩
  have key : ∀ (L : List (Fin 16)) (g : Vec Ideal S1024 .f32), L.Nodup →
      L.foldl (addLane w h) g x = (g x : EReal) + if l0 ∈ L ∧ b (lane (x 0).val) = (x 0).val / 16 then 1 else 0 := by
    intro L
    induction L with
    | nil => intro g _; simp
    | cons k L ih =>
      intro g hn
      rw [List.foldl_cons, ih _ (List.nodup_cons.1 hn).2]
      have hk := (List.nodup_cons.1 hn).1
      have hlk : l0 = k → lane (x 0).val = Shape.ofLane (d := ![16]) k := fun hl => funext fun a => by
        obtain rfl : a = 0 := Subsingleton.elim _ _
        exact hl
      have hx : (x 0).val < 1024 := (x 0).isLt
      have e0 : (idxAt (s := S1024) ![w] h (Shape.ofLane (d := ![16]) k) 0).val = b (Shape.ofLane (d := ![16]) k) * 16 + k.val :=
        hw (Shape.ofLane (d := ![16]) k)
      have hkey : (∀ a, (x a).val = (idxAt ![w] h (Shape.ofLane (d := ![16]) k) a).val)
          ↔ l0 = k ∧ b (lane (x 0).val) = (x 0).val / 16 := by
        have hkl := k.isLt
        constructor
        · intro hall
          have h0 := hall 0
          rw [e0] at h0
          have hl : l0 = k := Fin.ext (show (x 0).val % 16 = k.val by omega)
          refine ⟨hl, ?_⟩
          rw [hlk hl]; omega
        · rintro ⟨hl, hb⟩ a
          obtain rfl : a = 0 := Subsingleton.elim _ _
          rw [e0, ← hlk hl, hb]
          have : (x 0).val % 16 = k.val := congrArg Fin.val hl
          omega
      by_cases hc : ∀ a, (x a).val = (idxAt ![w] h (Shape.ofLane (d := ![16]) k) a).val
      · have hi : idxAt ![w] h (Shape.ofLane (d := ![16]) k) = x := funext fun a => Fin.ext (hc a).symm
        obtain ⟨hl, hb⟩ := hkey.1 hc
        have ha : addLane w h g k x = (g x : EReal) + 1 := by
          unfold addLane
          rw [if_pos hc, hi, Ideal.ofBits_one_f32]
        rw [ha, hl, if_neg (fun hh => hk hh.1), if_pos ⟨List.mem_cons_self, hb⟩, add_zero]
      · have ha : addLane w h g k x = g x := by
          unfold addLane
          rw [if_neg hc]
        have hc' := fun hh => hc (hkey.2 hh)
        rw [ha]
        congr 1
        refine if_congr ?_ rfl rfl
        constructor
        · rintro ⟨h1, h2⟩; exact ⟨List.mem_cons_of_mem _ h1, h2⟩
        · rintro ⟨h1, h2⟩
          rcases List.mem_cons.1 h1 with h1 | h1
          · exact absurd ⟨h1, h2⟩ hc'
          · exact ⟨h1, h2⟩
  rw [storeIdx_eq, key _ f (List.nodup_finRange 16)]
  simp

theorem pay1_at (v : Vec Ideal S1x16 .f32) (l : Fin 16) : k0_pay1 v (ix1 l) = unitOf (v (ix2 0 l)) := by
  pointwise [k0_pay1, unitOf]
theorem pay2_at (v : Vec Ideal S1x16 .f32) (l : Fin 16) : k0_pay2 v (ix1 l) = unitOf (v (ix2 0 l)) := by
  pointwise [k0_pay2, unitOf]
theorem pay3_at (v : Vec Ideal S1x16 .f32) (l : Fin 16) : k0_pay3 v (ix1 l) = unitOf (v (ix2 0 l)) := by
  pointwise [k0_pay3, unitOf]
theorem pay4_at (r g b : Vec Ideal S1x16 .f32) (l : Fin 16) :
    k0_pay4 r g b (ix1 l) = binWord (lumOf (r (ix2 0 l)) (g (ix2 0 l)) (b (ix2 0 l)) * ((64 : ℝ) : EReal)) := by
  have e : lumOf (r (ix2 0 l)) (g (ix2 0 l)) (b (ix2 0 l)) * ((64 : ℝ) : EReal)
      = mulf (addf (addf (mulf (k0_pay1 r) (broadcast S16 (Scalar.ofBits (F := Ideal) .f32 0x3E991687#32)))
          (mulf (k0_pay2 g) (broadcast S16 (Scalar.ofBits (F := Ideal) .f32 0x3F1645A2#32))))
          (mulf (k0_pay3 b) (broadcast S16 (Scalar.ofBits (F := Ideal) .f32 0x3DE978D5#32))))
          (broadcast S16 (Scalar.ofBits (F := Ideal) .f32 0x42800000#32)) (ix1 l) := by
    rw [← ofBits_64]
    unfold lumOf
    rw [← pay1_at r l, ← pay2_at g l, ← pay3_at b l]
    rfl
  rw [e]
  rfl

/-! ## All trips, all chunks -/

theorem trips_512 : k0_t1_loop.trips = 512 := by decide +kernel

/-- Where trip `k` reads in its chunk. -/
theorem off2_val : ∀ k : Fin k0_t1_loop.trips, (k0_off2 k) 0 = k.val / 32 ∧ (k0_off2 k) 1 = k.val % 32 * 16 := by decide +kernel

theorem lv_at (v : Vec Ideal S16x512 .f32) (k : Fin k0_t1_loop.trips) (l : Fin 16) (r : Fin 16) (c : Fin 512)
    (hr : r.val = k.val / 32) (hc : c.val = k.val % 32 * 16 + l.val) : lv v k (ix2 0 l) = v (ix2 r c) := by
  unfold lv
  refine congrArg v (funext fun a => Fin.ext ?_)
  have h := off2_val k
  match a with
  | ⟨0, _⟩ =>
    show (k0_off2 k) 0 + 1 * 0 = r.val
    omega
  | ⟨1, _⟩ =>
    show (k0_off2 k) 1 + 1 * l.val = c.val
    omega

/-- A quantity each trip adds `g` to grows by the sum of `g` over the trips. -/
theorem runV_acc (vr vg vb : Vec Ideal S16x512 .f32) (φ : St Ideal → EReal) (g : ℕ → EReal)
    (h : ∀ (k : Fin k0_t1_loop.trips) st, φ (stepV vr vg vb k st) = φ st + g k.val) (st : St Ideal) :
    ∀ n, n ≤ k0_t1_loop.trips → φ (runV vr vg vb n st) = φ st + ∑ k ∈ Finset.range n, g k := by
  intro n
  induction n with
  | zero => intro _; simp [runV]
  | succ n ih =>
    intro hn
    have hlt : n < k0_t1_loop.trips := hn
    show φ (if h : n < k0_t1_loop.trips then stepV vr vg vb ⟨n, h⟩ (runV vr vg vb n st) else runV vr vg vb n st) = _
    rw [dif_pos hlt, h, ih hlt.le, Finset.sum_range_succ, add_assoc]

/-- The same over the chunks. -/
theorem procV_acc (d : Dev nD) (src : Memref sig .scVector .hbm S48x512x512 .f32) (i : grid0.Coords)
    (X : Buf (Elt Ideal) (src.view.loc (thr d i))) (φ : St Ideal → EReal) (g : Fin 16 → ℕ → EReal)
    (h : ∀ (c : Fin 16) (k : Fin k0_t1_loop.trips) st, φ (stepV (rd d src i c 0 X) (rd d src i c 1 X) (rd d src i c 2 X) k st) = φ st + g c k.val)
    (h0 : φ (fun _ => Scalar.ofBits (F := Ideal) .f32 0x00000000#32, k0_pay129, k0_pay129, k0_pay129) = 0) :
    φ (procV d src i X) = ∑ c : Fin 16, ∑ k ∈ Finset.range 512, g c k := by
  have key : ∀ (L : List (Fin 16)) (st : St Ideal),
      φ (L.foldl (chunkV d src i X) st) = φ st + (L.map fun c => ∑ k ∈ Finset.range 512, g c k).sum := by
    intro L
    induction L with
    | nil => intro st; simp
    | cons c L ih =>
      intro st
      rw [List.foldl_cons, ih, List.map_cons, List.sum_cons, ← add_assoc]
      congr 1
      have := runV_acc _ _ _ φ (g c) (h c) st k0_t1_loop.trips le_rfl
      rw [show Finset.range 512 = Finset.range k0_t1_loop.trips by rw [trips_512]]
      exact this
  unfold procV
  rw [key, h0, zero_add, Fin.sum_univ_def]

end Cert.Proof.Val
-- ==== Proof.Loss.lean ====
/-
  The loss as the two programs' common mathematics: per image and channel the pixels' mean, per image and bin the number of
  pixels, and the loss of these. And the one identity the two programs' sums need: the mean over channels of means over images is the
  mean over both, the terms being at least zero.
-/
module

public import proofs.«01_k».proof.Proof.HistVal

@[expose] public section

noncomputable section

namespace Cert.Proof.Val

open Idealize.ShloMosaic

/-- A batch of images, by image, channel, row and column. -/
abbrev Imgs : Type := (⟨4, ![16, 3, 512, 512]⟩ : Shape).Idx → EReal

/-- The luminance of a pixel. -/
def lum (a : Imgs) (b : Fin 16) (h w : Fin 512) : EReal := lumOf (a (ix4 b 0 h w)) (a (ix4 b 1 h w)) (a (ix4 b 2 h w))
/-- How many pixels of an image fall in a bin. -/
def histOf (a : Imgs) (b : Fin 16) (j : Fin 64) : EReal := ∑ h : Fin 512, ∑ w : Fin 512, if binOf (lum a b h w) = j.val then 1 else 0
/-- The mean of a channel of an image. -/
def meanOf (a : Imgs) (b : Fin 16) (ch : Fin 3) : EReal :=
  Ideal.div (∑ h : Fin 512, ∑ w : Fin 512, unitOf (a (ix4 b ch h w))) (Ideal.ofBits .f32 0x48800000#32)

/-- The absolute value. -/
def absE (x : EReal) : EReal := max x (-x)
theorem absE_nonneg (x : EReal) : 0 ≤ absE x := by
  unfold absE
  rcases le_total 0 x with h | h
  · exact le_max_of_le_left h
  · exact le_max_of_le_right (EReal.neg_nonneg.2 h)

def sixteen : EReal := Ideal.ofBits .f32 0x41800000#32
theorem sixteen_eq : sixteen = ((16 : ℝ) : EReal) := by
  unfold sixteen
  simp [Ideal.ofBits, Ideal.ieee]
  rw [← EReal.coe_mul]
  norm_num
theorem three_eq : Ideal.ofBits .f32 0x40400000#32 = ((3 : ℝ) : EReal) := by
  simp [Ideal.ofBits, Ideal.ieee]
  rw [← EReal.coe_mul]
  norm_num
theorem fortyeight_eq : Ideal.ofBits .f32 0x42400000#32 = ((48 : ℝ) : EReal) := by
  simp [Ideal.ofBits, Ideal.ieee]
  rw [← EReal.coe_mul]
  norm_num

/-- The grey-world term of one image. -/
def greyTerm (m : Fin 16 → Fin 3 → EReal) (b : Fin 16) : EReal :=
  (absE (m b 0 - m b 1) + absE (m b 1 - m b 2)) + absE (m b 2 - m b 0)
/-- A channel's share of the image's three means. -/
def share (m : Fin 16 → Fin 3 → EReal) (b : Fin 16) (ch : Fin 3) : EReal :=
  Ideal.div (m b ch) (((m b 0 + m b 1) + m b 2) + Ideal.ofBits .f32 0x358637BD#32)
/-- How far the two batches' shares are apart. -/
def ratioTerm (mx my : Fin 16 → Fin 3 → EReal) (b : Fin 16) (ch : Fin 3) : EReal := absE (share mx b ch - share my b ch)
/-- A histogram's smoothed frequency. -/
def freq (H : Fin 16 → Fin 64 → EReal) (b : Fin 16) (j : Fin 64) : EReal :=
  Ideal.div (H b j + Ideal.ofBits .f32 0x358637BD#32) ((∑ k : Fin 64, H b k) + Ideal.ofBits .f32 0x388637BD#32)
/-- The divergence's term of one bin. -/
def klTerm (hx hy : Fin 16 → Fin 64 → EReal) (b : Fin 16) (j : Fin 64) : EReal :=
  freq hy b j * (Ideal.log (freq hy b j) - Ideal.log (freq hx b j))

/-- The loss, the ratio part being given. -/
def lossOf (mx : Fin 16 → Fin 3 → EReal) (hx hy : Fin 16 → Fin 64 → EReal) (ratio : EReal) : EReal :=
  Ideal.ofBits .f32 0x41200000#32 * ((Ideal.div (∑ b : Fin 16, greyTerm mx b) sixteen + ratio)
    + Ideal.div (∑ b : Fin 16, ∑ j : Fin 64, klTerm hx hy b j) sixteen)

/-- The mean over images, channel by channel, then over channels. -/
def ratioByChannel (mx my : Fin 16 → Fin 3 → EReal) : EReal :=
  Ideal.div ((Ideal.div (∑ b : Fin 16, ratioTerm mx my b 0) sixteen + Ideal.div (∑ b : Fin 16, ratioTerm mx my b 1) sixteen)
    + Ideal.div (∑ b : Fin 16, ratioTerm mx my b 2) sixteen) (Ideal.ofBits .f32 0x40400000#32)
/-- The mean over both at once. -/
def ratioAtOnce (mx my : Fin 16 → Fin 3 → EReal) : EReal :=
  Ideal.div (∑ b : Fin 16, ∑ ch : Fin 3, ratioTerm mx my b ch) (Ideal.ofBits .f32 0x42400000#32)

theorem ratio_eq (mx my : Fin 16 → Fin 3 → EReal) : ratioByChannel mx my = ratioAtOnce mx my := by
  unfold ratioByChannel ratioAtOnce
  rw [sixteen_eq, three_eq, fortyeight_eq, Ideal.div_coe (by norm_num), Ideal.div_coe (by norm_num), Ideal.div_coe (by norm_num),
    Ideal.div_coe (by norm_num), Ideal.div_coe (by norm_num)]
  have hn : ∀ ch, 0 ≤ ∑ b : Fin 16, ratioTerm mx my b ch := fun ch => Finset.sum_nonneg fun b _ => absE_nonneg _
  rw [← EReal.right_distrib_of_nonneg (hn 0) (hn 1), ← EReal.right_distrib_of_nonneg (add_nonneg (hn 0) (hn 1)) (hn 2), mul_assoc,
    ← EReal.coe_mul, Finset.sum_congr rfl fun b _ => Fin.sum_univ_three (ratioTerm mx my b), Finset.sum_add_distrib, Finset.sum_add_distrib]
  norm_num

end Cert.Proof.Val
-- ==== Proof.TileVal.lean ====
/-
  The SparseCore tasks' results as sums over an image: the two cores' tasks of one image between them count each of its pixels
  once, and add each of its pixels once.
-/
module

public import proofs.«01_k».proof.Proof.HistVal
public import proofs.«01_k».proof.Proof.TileLaunch

@[expose] public section

noncomputable section

namespace Cert.Proof.Val

open Idealize.ShloMosaic Cert.Proof.Tile Cert.KernelIdeal Cert.KernelIdeal.Gen Cert.KernelIdeal.Facts

/-! ## Sums over ranges -/

theorem sum_range_mul (g : ℕ → EReal) (b : ℕ) : ∀ a : ℕ,
    ∑ n ∈ Finset.range (a * b), g n = ∑ i ∈ Finset.range a, ∑ j ∈ Finset.range b, g (i * b + j)
  | 0 => by simp
  | a + 1 => by
    rw [Nat.succ_mul, Finset.sum_range_add, sum_range_mul g b a, Finset.sum_range_succ]

/-- The order the tasks take an image's pixels in: by core, lane, chunk and trip. -/
theorem sum_pixels (f : ℕ → ℕ → EReal) :
    (∑ p ∈ Finset.range 2, ∑ l ∈ Finset.range 16, ∑ c ∈ Finset.range 16, ∑ k ∈ Finset.range 512,
        f (p * 256 + 16 * c + k / 32) (k % 32 * 16 + l))
      = ∑ h ∈ Finset.range 512, ∑ w ∈ Finset.range 512, f h w := by
  have e1 : ∀ h, (∑ w ∈ Finset.range 512, f h w) = ∑ q ∈ Finset.range 32, ∑ l ∈ Finset.range 16, f h (q * 16 + l) :=
    fun h => sum_range_mul (f h) 16 32
  rw [show (512 : ℕ) = 2 * 256 from rfl, sum_range_mul _ 256 2, show 2 * 256 = 512 from rfl]
  refine Finset.sum_congr rfl fun p _ => ?_
  rw [show (256 : ℕ) = 16 * 16 from rfl, sum_range_mul _ 16 16, show 16 * 16 = 256 from rfl, Finset.sum_comm]
  refine Finset.sum_congr rfl fun c _ => ?_
  rw [Finset.sum_congr rfl fun l _ => show (∑ k ∈ Finset.range 512, f (p * 256 + 16 * c + k / 32) (k % 32 * 16 + l))
      = ∑ r ∈ Finset.range 16, ∑ q ∈ Finset.range 32, f (p * 256 + (c * 16 + r)) (q * 16 + l) from ?_]
  · rw [Finset.sum_comm]
    refine Finset.sum_congr rfl fun r _ => ?_
    rw [e1, Finset.sum_comm]
  · rw [show (512 : ℕ) = 16 * 32 from rfl, sum_range_mul _ 32 16]
    refine Finset.sum_congr rfl fun r _ => Finset.sum_congr rfl fun q hq => ?_
    have hq := Finset.mem_range.1 hq
    rw [show (r * 32 + q) / 32 = r by omega, show (r * 32 + q) % 32 = q by omega, show p * 256 + 16 * c + r = p * 256 + (c * 16 + r) by omega]

/-! ## What a task reads -/

/-- Pixel `(h, w)` of plane `p` of the 48 planes. -/
def plane (Z : S48x512x512.Idx → EReal) (p h w : ℕ) : EReal :=
  Z (ix3 (⟨p % 48, Nat.mod_lt _ (by decide)⟩ : Fin 48) (⟨h % 512, Nat.mod_lt _ (by decide)⟩ : Fin 512) (⟨w % 512, Nat.mod_lt _ (by decide)⟩ : Fin 512))
/-- The luminance of pixel `(h, w)` of image `b`. -/
def lumAt (Z : S48x512x512.Idx → EReal) (b h w : ℕ) : EReal :=
  lumOf (plane Z (b * 3) h w) (plane Z (b * 3 + 1) h w) (plane Z (b * 3 + 2) h w)

theorem off1_val (i : grid0.Coords) (ch : Fin 3) (c : Fin 16) :
    (k0_off1 i (BitVec.ofNat 32 ch.val) (BitVec.ofNat 32 (16 * c.val))) 0 = (i 1).val * 3 + ch.val
      ∧ (k0_off1 i (BitVec.ofNat 32 ch.val) (BitVec.ofNat 32 (16 * c.val))) 1 = (i 0).val * 256 + 16 * c.val
      ∧ (k0_off1 i (BitVec.ofNat 32 ch.val) (BitVec.ofNat 32 (16 * c.val))) 2 = 0 := by
  have h0 : (i 0).val < 2 := (i 0).isLt
  have h1 : (i 1).val < 16 := (i 1).isLt
  have hc := c.isLt
  have hch := ch.isLt
  refine ⟨?_, ?_, rfl⟩
  · show (BitVec.ofNat 32 (i 1).val * 3#32 + BitVec.ofNat 32 ch.val).toNat = _
    rw [BitVec.toNat_add, BitVec.toNat_mul, BitVec.toNat_ofNat, BitVec.toNat_ofNat, BitVec.toNat_ofNat]
    omega
  · show (BitVec.ofNat 32 (i 0).val * 256#32 + BitVec.ofNat 32 (16 * c.val)).toNat = _
    rw [BitVec.toNat_add, BitVec.toNat_mul, BitVec.toNat_ofNat, BitVec.toNat_ofNat, BitVec.toNat_ofNat]
    omega

variable (d : Dev nD) (src : Memref sig .scVector .hbm S48x512x512 .f32) (Z : S48x512x512.Idx → EReal)

theorem rd_at (i : grid0.Coords) (c : Fin 16) (ch : Fin 3) (X : Buf (Elt Ideal) (src.view.loc (thr d i)))
    (hZ : src.view.read (Elt Ideal) X = Z) (r : Fin 16) (w : Fin 512) :
    rd d src i c ch X (ix2 r w) = plane Z ((i 1).val * 3 + ch.val) ((i 0).val * 256 + 16 * c.val + r.val) w.val := by
  have h0 : (i 0).val < 2 := (i 0).isLt
  have h1 : (i 1).val < 16 := (i 1).isLt
  have hc := c.isLt
  have hch := ch.isLt
  have hr := r.isLt
  have hw := w.isLt
  obtain ⟨o0, o1, o2⟩ := off1_val i ch c
  have e : rd d src i c ch X = shapeCast S16x512 (src.view.readAt (Elt Ideal)
      (Rect.unit (s := S48x512x512) (k0_off1 i (BitVec.ofNat 32 ch.val) (BitVec.ofNat 32 (16 * c.val))) S1x16x512.size (k0_off1_inb i ch c)).toLoadRect X)
      (s := S1x16x512) (by decide) := rfl
  rw [e]
  refine (shapeCast_apply _ _ _ (ix3 (0 : Fin 1) r w) ?_).trans ?_
  · rw [Shape.rowMajor_val_two, Shape.rowMajor_val_three]
    show (0 * 16 + r.val) * 512 + w.val = r.val * 512 + w.val
    omega
  · show src.view.read (Elt Ideal) X ((Rect.unit (s := S48x512x512) (k0_off1 i (BitVec.ofNat 32 ch.val) (BitVec.ofNat 32 (16 * c.val))) S1x16x512.size
        (k0_off1_inb i ch c)).toLoadRect.idx (ix3 (0 : Fin 1) r w)) = _
    rw [hZ]
    unfold plane
    refine congrArg Z (funext fun a => Fin.ext ?_)
    match a with
    | ⟨0, _⟩ =>
      show (k0_off1 i (BitVec.ofNat 32 ch.val) (BitVec.ofNat 32 (16 * c.val))) 0 + 1 * 0 = ((i 1).val * 3 + ch.val) % 48
      rw [o0]; omega
    | ⟨1, _⟩ =>
      show (k0_off1 i (BitVec.ofNat 32 ch.val) (BitVec.ofNat 32 (16 * c.val))) 1 + 1 * r.val = ((i 0).val * 256 + 16 * c.val + r.val) % 512
      rw [o1]; omega
    | ⟨2, _⟩ =>
      show (k0_off1 i (BitVec.ofNat 32 ch.val) (BitVec.ofNat 32 (16 * c.val))) 2 + 1 * w.val = w.val % 512
      rw [o2]; omega

/-- Lane `l` of trip `k` of chunk `c`. -/
theorem lv_rd (i : grid0.Coords) (c : Fin 16) (ch : Fin 3) (X : Buf (Elt Ideal) (src.view.loc (thr d i)))
    (hZ : src.view.read (Elt Ideal) X = Z) (k : Fin k0_t1_loop.trips) (l : Fin 16) :
    lv (rd d src i c ch X) k (ix2 0 l)
      = plane Z ((i 1).val * 3 + ch.val) ((i 0).val * 256 + 16 * c.val + k.val / 32) (k.val % 32 * 16 + l.val) := by
  have hk : k.val < 512 := lt_of_lt_of_eq k.isLt trips_512
  have hl := l.isLt
  rw [lv_at _ k l ⟨k.val / 32, by omega⟩ ⟨k.val % 32 * 16 + l.val, by omega⟩ rfl rfl]
  exact rd_at d src Z i c ch X hZ _ _

/-- An entry of a task's histogram. -/
theorem procV_hist (i : grid0.Coords) (X : Buf (Elt Ideal) (src.view.loc (thr d i))) (hZ : src.view.read (Elt Ideal) X = Z)
    (hnw : ∀ b h w, NoWrap (lumAt Z b h w)) (j : Fin 64) (l : Fin 16) (x : S1024.Idx) (hx : (x 0).val = j.val * 16 + l.val) :
    (procV d src i X).1 x = ∑ c ∈ Finset.range 16, ∑ k ∈ Finset.range 512,
      if binOf (lumAt Z (i 1).val ((i 0).val * 256 + 16 * c + k / 32) (k % 32 * 16 + l.val)) = j.val then (1 : EReal) else 0 := by
  have hl := l.isLt
  rw [Finset.sum_range]
  refine procV_acc d src i X (fun st => st.1 x) (fun c k => if binOf (lumAt Z (i 1).val ((i 0).val * 256 + 16 * c.val + k / 32) (k % 32 * 16 + l.val)) = j.val
    then (1 : EReal) else 0) (fun c k st => ?_) Ideal.ofBits_zero_f32
  have hb : lane (x 0).val = ix1 l := funext fun a => by
    obtain rfl : a = 0 := Subsingleton.elim _ _
    exact Fin.ext (show (x 0).val % 16 = l.val by omega)
  refine (storeIdx_lanes st.1 _ _ _ (pay131_toNat _) x).trans ?_
  rw [hb, pay4_at, lv_rd d src Z i c 0 X hZ, lv_rd d src Z i c 1 X hZ, lv_rd d src Z i c 2 X hZ]
  have := bin_kernel (lumAt Z (i 1).val ((i 0).val * 256 + 16 * c.val + k.val / 32) (k.val % 32 * 16 + l.val)) (hnw _ _ _)
  unfold lumAt at this ⊢
  rw [show (x 0).val / 16 = j.val by omega]
  exact congrArg (fun n => st.1 x + if n = j.val then (1 : EReal) else 0) this

/-- A lane of a task's sums. -/
theorem procV_sums (i : grid0.Coords) (X : Buf (Elt Ideal) (src.view.loc (thr d i))) (hZ : src.view.read (Elt Ideal) X = Z)
    (ch : Fin 3) (l : Fin 16) (x : S48.Idx) (hx : (x 0).val = ch.val * 16 + l.val) :
    sums48 (procV d src i X).2 x = ∑ c ∈ Finset.range 16, ∑ k ∈ Finset.range 512,
      unitOf (plane Z ((i 1).val * 3 + ch.val) ((i 0).val * 256 + 16 * c + k / 32) (k % 32 * 16 + l.val)) := by
  have hl := l.isLt
  have hb : lane (x 0).val = ix1 l := funext fun a => by
    obtain rfl : a = 0 := Subsingleton.elim _ _
    exact Fin.ext (show (x 0).val % 16 = l.val by omega)
  rw [Finset.sum_range]
  have hs : ∀ s : Sums Ideal, sums48 s x = match ch with | 0 => s.1 (ix1 l) | 1 => s.2.1 (ix1 l) | 2 => s.2.2 (ix1 l) := by
    intro s
    unfold sums48
    rw [hb]
    match ch with
    | 0 => have : (x 0).val < 16 := by have : (x 0).val = 0 * 16 + l.val := hx; omega
           rw [if_pos this]
    | 1 => have e : (x 0).val = 1 * 16 + l.val := hx
           rw [if_neg (by omega), if_pos (by omega)]
    | 2 => have e : (x 0).val = 2 * 16 + l.val := hx
           rw [if_neg (by omega), if_neg (by omega)]
  refine procV_acc d src i X (fun st => sums48 st.2 x) (fun c k => unitOf (plane Z ((i 1).val * 3 + ch.val) ((i 0).val * 256 + 16 * c.val + k / 32) (k % 32 * 16 + l.val)))
    (fun c k st => ?_) ?_
  · have h0 := lv_rd d src Z i c 0 X hZ k l
    have h1 := lv_rd d src Z i c 1 X hZ k l
    have h2 := lv_rd d src Z i c 2 X hZ k l
    show sums48 _ x = sums48 st.2 x + _
    rw [hs, hs]
    match ch with
    | 0 => exact congrArg (fun t => st.2.1 (ix1 l) + t) ((pay1_at _ l).trans (congrArg unitOf h0))
    | 1 => exact congrArg (fun t => st.2.2.1 (ix1 l) + t) ((pay2_at _ l).trans (congrArg unitOf h1))
    | 2 => exact congrArg (fun t => st.2.2.2 (ix1 l) + t) ((pay3_at _ l).trans (congrArg unitOf h2))
  · show sums48 _ x = 0
    rw [hs]
    match ch with
    | 0 => exact Ideal.ofBits_zero_f32
    | 1 => exact Ideal.ofBits_zero_f32
    | 2 => exact Ideal.ofBits_zero_f32

end Cert.Proof.Val
-- ==== Proof.KerVal.lean ====
/-
  The kernel's result, over the extended reals: the loss of the channel means and of the bins' counts.
-/
module

public import proofs.«01_k».proof.Proof.Loss
public import proofs.«01_k».proof.Proof.TileVal
public import proofs.«01_k».proof.Proof.Run
public import Idealize.ShloMosaic.Lib.Pipeline.Value
public import Idealize.ShloMosaic.Lib.VecWindow

@[expose] public section

set_option maxRecDepth 16384

noncomputable section

namespace Cert.Proof.Val

open Idealize.ShloMosaic Cert.Proof.Tile Cert.KernelIdeal Cert.KernelIdeal.Gen Cert.KernelIdeal.Facts

/-! ## The SparseCore's results, reshaped -/

theorem plane_cast (a : Imgs) (hc : S16x3x512x512.ShapeCasts S48x512x512) (b h w : ℕ) (ch : Fin 3) :
    plane (shapeCast S48x512x512 a hc) (b * 3 + ch.val) h w
      = a (ix4 (⟨b % 16, Nat.mod_lt _ (by decide)⟩ : Fin 16) ch (⟨h % 512, Nat.mod_lt _ (by decide)⟩ : Fin 512) (⟨w % 512, Nat.mod_lt _ (by decide)⟩ : Fin 512)) := by
  unfold plane
  refine shapeCast_apply _ _ _ _ ?_
  rw [Shape.rowMajor_val_three, Shape.rowMajor_val_four]
  have := ch.isLt
  show ((b % 16 * 3 + ch.val) * 512 + h % 512) * 512 + w % 512 = ((b * 3 + ch.val) % 48 * 512 + h % 512) * 512 + w % 512
  have : (b * 3 + ch.val) % 48 = b % 16 * 3 + ch.val := by omega
  rw [this]

theorem lumAt_cast (a : Imgs) (hc : S16x3x512x512.ShapeCasts S48x512x512) (b h w : ℕ) :
    lumAt (shapeCast S48x512x512 a hc) b h w
      = lum a (⟨b % 16, Nat.mod_lt _ (by decide)⟩ : Fin 16) (⟨h % 512, Nat.mod_lt _ (by decide)⟩ : Fin 512) (⟨w % 512, Nat.mod_lt _ (by decide)⟩ : Fin 512) := by
  have h0 := plane_cast a hc b h w 0
  have h1 := plane_cast a hc b h w 1
  have h2 := plane_cast a hc b h w 2
  unfold lumAt lum
  rw [← h0, ← h1, ← h2]
  rfl

theorem mod_self {n : ℕ} [NeZero n] (x : Fin n) : (⟨x.val % n, Nat.mod_lt _ (NeZero.pos n)⟩ : Fin n) = x :=
  Fin.ext (Nat.mod_eq_of_lt x.isLt)

section Totals
variable (d : Dev nD) (src : Memref sig .scVector .hbm S48x512x512 .f32) (a : Imgs) (hc : S16x3x512x512.ShapeCasts S48x512x512)
  (X : (i : grid0.Coords) → Buf (Elt Ideal) (src.view.loc (thr d i))) (hZ : ∀ i, src.view.read (Elt Ideal) (X i) = shapeCast S48x512x512 a hc)
include hZ

/-- Both cores' lanes of a bin count the image's pixels of that bin. -/
theorem hist_total (hnw : ∀ b h w, NoWrap (lum a b h w)) (hg : S32768.ShapeCasts S2x16x64x16) (b : Fin 16) (j : Fin 64) :
    (∑ l : Fin 16, shapeCast S2x16x64x16 (histG d src X) hg (ix4 0 b j l)) + (∑ l : Fin 16, shapeCast S2x16x64x16 (histG d src X) hg (ix4 1 b j l))
      = histOf a b j := by
  have hb := b.isLt
  have hj := j.isLt
  have key : ∀ (p : Fin 2) (l : Fin 16), shapeCast S2x16x64x16 (histG d src X) hg (ix4 p b j l)
      = ∑ c ∈ Finset.range 16, ∑ k ∈ Finset.range 512,
        if binOf (lumAt (shapeCast S48x512x512 a hc) b.val (p.val * 256 + 16 * c + k / 32) (k % 32 * 16 + l.val)) = j.val then (1 : EReal) else 0 := by
    intro p l
    have hp := p.isLt
    have hl := l.isLt
    refine (shapeCast_apply (t := S2x16x64x16) (histG d src X) hg _ (ix1 (⟨((p.val * 16 + b.val) * 64 + j.val) * 16 + l.val, by omega⟩ : Fin 32768)) ?_).trans ?_
    · rw [Shape.rowMajor_val_one, Shape.rowMajor_val_four]; rfl
    · unfold histG
      have e := spread_at (F := Ideal) 1024 (fun i => (procV d src i (X i)).1) p b (ix1 (⟨j.val * 16 + l.val, by omega⟩ : Fin 1024))
      have en : ((p.val * 16 + b.val) * 64 + j.val) * 16 + l.val = 1024 * (16 * p.val + b.val) + (j.val * 16 + l.val) := by omega
      refine (congrArg (spread (F := Ideal) 1024 (fun i => (procV d src i (X i)).1)) en).trans (e.trans ?_)
      exact procV_hist d src _ (crdOf p b) (X _) (hZ _) (fun b h w => by rw [lumAt_cast]; exact hnw _ _ _) j l _ rfl
  simp only [key]
  have e := sum_pixels fun h w => if binOf (lumAt (shapeCast S48x512x512 a hc) b.val h w) = j.val then (1 : EReal) else 0
  rw [Finset.sum_range_succ, Finset.sum_range_one, Finset.sum_range, Finset.sum_range] at e
  refine e.trans ?_
  unfold histOf
  rw [Finset.sum_range]
  refine Finset.sum_congr rfl fun h _ => ?_
  rw [Finset.sum_range]
  refine Finset.sum_congr rfl fun w _ => ?_
  rw [lumAt_cast, mod_self b, mod_self h, mod_self w]

/-- Both cores' lanes of a channel add up the image's pixels of that channel. -/
theorem sums_total (hg : S1536.ShapeCasts S2x16x3x16) (b : Fin 16) (ch : Fin 3) :
    (∑ l : Fin 16, shapeCast S2x16x3x16 (sumsG d src X) hg (ix4 0 b ch l)) + (∑ l : Fin 16, shapeCast S2x16x3x16 (sumsG d src X) hg (ix4 1 b ch l))
      = ∑ h : Fin 512, ∑ w : Fin 512, unitOf (a (ix4 b ch h w)) := by
  have hb := b.isLt
  have hj := ch.isLt
  have key : ∀ (p : Fin 2) (l : Fin 16), shapeCast S2x16x3x16 (sumsG d src X) hg (ix4 p b ch l)
      = ∑ c ∈ Finset.range 16, ∑ k ∈ Finset.range 512,
        unitOf (plane (shapeCast S48x512x512 a hc) (b.val * 3 + ch.val) (p.val * 256 + 16 * c + k / 32) (k % 32 * 16 + l.val)) := by
    intro p l
    have hp := p.isLt
    have hl := l.isLt
    refine (shapeCast_apply (t := S2x16x3x16) (sumsG d src X) hg _ (ix1 (⟨((p.val * 16 + b.val) * 3 + ch.val) * 16 + l.val, by omega⟩ : Fin 1536)) ?_).trans ?_
    · rw [Shape.rowMajor_val_one, Shape.rowMajor_val_four]; rfl
    · unfold sumsG
      have e := spread_at (F := Ideal) 48 (fun i => sums48 (procV d src i (X i)).2) p b (ix1 (⟨ch.val * 16 + l.val, by omega⟩ : Fin 48))
      have en : ((p.val * 16 + b.val) * 3 + ch.val) * 16 + l.val = 48 * (16 * p.val + b.val) + (ch.val * 16 + l.val) := by omega
      refine (congrArg (spread (F := Ideal) 48 (fun i => sums48 (procV d src i (X i)).2)) en).trans (e.trans ?_)
      exact procV_sums d src _ (crdOf p b) (X _) (hZ _) ch l _ rfl
  simp only [key]
  have e := sum_pixels fun h w => unitOf (plane (shapeCast S48x512x512 a hc) (b.val * 3 + ch.val) h w)
  rw [Finset.sum_range_succ, Finset.sum_range_one, Finset.sum_range, Finset.sum_range] at e
  refine e.trans ?_
  rw [Finset.sum_range]
  refine Finset.sum_congr rfl fun h _ => ?_
  rw [Finset.sum_range]
  refine Finset.sum_congr rfl fun w _ => ?_
  rw [plane_cast, mod_self b, mod_self h, mod_self w]

end Totals

end Cert.Proof.Val
-- ==== Proof.TailVal.lean ====
/-
  The TensorCore tail's payloads read at an index, over the extended reals: the loss of the means and of the histograms.
-/
module

public import proofs.«01_k».proof.Proof.TileBase
public import proofs.«01_k».proof.Proof.Loss
public import Idealize.ShloMosaic.Lib.Pointwise

@[expose] public section

set_option maxRecDepth 16384

noncomputable section

namespace Cert.Proof.Val

open Idealize.ShloMosaic Cert.Proof.Tile Cert.KernelIdeal Cert.KernelIdeal.Gen Cert.KernelIdeal.Facts

theorem tpay1_at (u v : Vec Ideal S1x16x64x16 .f32) (b : Fin 16) (j : Fin 64) :
    k1_pay1 u v (ix2 b j) = (∑ l : Fin 16, u (ix4 0 b j l)) + ∑ l : Fin 16, v (ix4 0 b j l) := by
  pointwise [k1_pay1]
theorem tpay2_at (u v : Vec Ideal S1x16x64x16 .f32) (b : Fin 16) (j : Fin 64) :
    k1_pay2 u v (ix2 b j) = (∑ l : Fin 16, u (ix4 0 b j l)) + ∑ l : Fin 16, v (ix4 0 b j l) := by
  pointwise [k1_pay2]
theorem tpay3_at (u v : Vec Ideal S1x16x3x16 .f32) (b : Fin 16) (j : Fin 3) :
    k1_pay3 u v (ix2 b j) = Ideal.div ((∑ l : Fin 16, u (ix4 0 b j l)) + ∑ l : Fin 16, v (ix4 0 b j l)) (Ideal.ofBits .f32 0x48800000#32) := by
  pointwise [k1_pay3]

theorem absf_eq (x : EReal) : (FloatOps.absf (F := Ideal) (φ := .f32) x : EReal) = absE x := rfl

/-- The tail's result from its eight loads. -/
theorem tail_value (u0 u1 v0 v1 : Vec Ideal S1x16x64x16 .f32) (s0 s1 t0 t1 : Vec Ideal S1x16x3x16 .f32) :
    k1_pay17 (k1_pay1 u0 u1) (k1_pay2 v0 v1) (k1_pay8 (k1_pay3 s0 s1)) (k1_pay11 (k1_pay4 t0) t1) (k1_pay12 (k1_pay3 s0 s1))
        (k1_pay13 (k1_pay3 s0 s1)) (k1_pay14 (k1_pay4 t0) t1) (k1_pay15 (k1_pay3 s0 s1) (k1_pay4 t0) t1) (k1_pay16 (k1_pay3 s0 s1) (k1_pay4 t0) t1)
      = lossOf (fun b j => Ideal.div ((∑ l : Fin 16, s0 (ix4 0 b j l)) + ∑ l : Fin 16, s1 (ix4 0 b j l)) (Ideal.ofBits .f32 0x48800000#32))
          (fun b j => (∑ l : Fin 16, u0 (ix4 0 b j l)) + ∑ l : Fin 16, u1 (ix4 0 b j l))
          (fun b j => (∑ l : Fin 16, v0 (ix4 0 b j l)) + ∑ l : Fin 16, v1 (ix4 0 b j l))
          (ratioByChannel (fun b j => Ideal.div ((∑ l : Fin 16, s0 (ix4 0 b j l)) + ∑ l : Fin 16, s1 (ix4 0 b j l)) (Ideal.ofBits .f32 0x48800000#32))
            (fun b j => Ideal.div ((∑ l : Fin 16, t0 (ix4 0 b j l)) + ∑ l : Fin 16, t1 (ix4 0 b j l)) (Ideal.ofBits .f32 0x48800000#32))) := by
  pointwise [k1_pay17, k1_pay16, k1_pay15, k1_pay14, k1_pay13, k1_pay12, k1_pay11, k1_pay10, k1_pay9, k1_pay8, k1_pay7, k1_pay6, k1_pay5, k1_pay4, k1_pay3, k1_pay2, k1_pay1]
  simp only [absf_eq, Finset.univ_unique, Finset.sum_singleton]
  rfl

end Cert.Proof.Val
-- ==== Proof.KerLoss.lean ====
/-
  The kernel's result: the loss of the channel means and of the bins' counts of its two arguments.
-/
module

public import proofs.«01_k».proof.Proof.KerVal
public import proofs.«01_k».proof.Proof.TailVal

@[expose] public section

set_option maxRecDepth 16384

noncomputable section

namespace Cert.Proof.Val

open Idealize.ShloMosaic Cert.Proof.Tile Cert.KernelIdeal Cert.KernelIdeal.Gen Cert.KernelIdeal.Facts
open Idealize.ShloMosaic.Pipeline (Dat)

/-- The loss the tail makes of the four reshaped results. -/
def lossTail (f0 f1 : S2x16x64x16.Idx → EReal) (f2 f3 : S2x16x3x16.Idx → EReal) : EReal :=
  lossOf (fun b j => Ideal.div ((∑ l : Fin 16, f2 (ix4 0 b j l)) + ∑ l : Fin 16, f2 (ix4 1 b j l)) (Ideal.ofBits .f32 0x48800000#32))
    (fun b j => (∑ l : Fin 16, f0 (ix4 0 b j l)) + ∑ l : Fin 16, f0 (ix4 1 b j l))
    (fun b j => (∑ l : Fin 16, f1 (ix4 0 b j l)) + ∑ l : Fin 16, f1 (ix4 1 b j l))
    (ratioByChannel (fun b j => Ideal.div ((∑ l : Fin 16, f2 (ix4 0 b j l)) + ∑ l : Fin 16, f2 (ix4 1 b j l)) (Ideal.ofBits .f32 0x48800000#32))
      (fun b j => Ideal.div ((∑ l : Fin 16, f3 (ix4 0 b j l)) + ∑ l : Fin 16, f3 (ix4 1 b j l)) (Ideal.ofBits .f32 0x48800000#32)))

/-- Block `p` of a four-axis array, read at the first row, is the array at that block. -/
theorem blk_ix {n0 n1 n2 n3 : ℕ} (p : Fin n0) (inb) (b : Fin n1) (j : Fin n2) (l : Fin n3) :
    (Rect.unit (s := (⟨4, ![n0, n1, n2, n3]⟩ : Shape)) ![p.val, 0, 0, 0] (⟨4, ![1, n1, n2, n3]⟩ : Shape).size inb).idx (ix4 (0 : Fin 1) b j l) = ix4 p b j l :=
  funext fun k => by
    fin_cases k
    · exact Fin.ext (by show p.val + 1 * 0 = p.val; omega)
    · exact Fin.ext (by show 0 + 1 * b.val = b.val; omega)
    · exact Fin.ext (by show 0 + 1 * j.val = j.val; omega)
    · exact Fin.ext (by show 0 + 1 * l.val = l.val; omega)

theorem ld_h (M : Memref sig .tc .vmem S2x16x64x16 .f32) (c : Dev nD) (f : Bf (F := Ideal) c M) (p : Fin 2) (inb) (b : Fin 16) (j : Fin 64) (l : Fin 16) :
    View.readAt (Elt Ideal) M.view (Rect.unit (s := S2x16x64x16) ![p.val, 0, 0, 0] S1x16x64x16.size inb).toLoadRect f (ix4 0 b j l) = M.view.read (Elt Ideal) f (ix4 p b j l) :=
  congrArg (M.view.read (Elt Ideal) f) (blk_ix p inb b j l)
theorem ld_s (M : Memref sig .tc .vmem S2x16x3x16 .f32) (c : Dev nD) (f : Bf (F := Ideal) c M) (p : Fin 2) (inb) (b : Fin 16) (j : Fin 3) (l : Fin 16) :
    View.readAt (Elt Ideal) M.view (Rect.unit (s := S2x16x3x16) ![p.val, 0, 0, 0] S1x16x3x16.size inb).toLoadRect f (ix4 0 b j l) = M.view.read (Elt Ideal) f (ix4 p b j l) :=
  congrArg (M.view.read (Elt Ideal) f) (blk_ix p inb b j l)

theorem tail_run (c : Dev nD) (f0 : Bf (F := Ideal) c (stage1_0 0)) (f1 : Bf (F := Ideal) c (stage1_1 0)) (f2 : Bf (F := Ideal) c (stage1_2 0)) (f3 : Bf (F := Ideal) c (stage1_3 0)) :
    (tailRun (F := Ideal) c f0 f1 f2 f3).1 = fun _ => lossTail f0 f1 f2 f3 := by
  unfold tailRun; dsimp only; unfold tailRun.sl.H4_1
  refine (View.read_writes_full (Val := Elt Ideal) (View.whole cc1_stg4_0) _ _ _ []).trans ?_
  funext _
  rw [tail_value]
  have a0 := ld_h (stage1_0 0) c f0 0 inb_S2x16x64x16_S1x16x64x16_0_0_0_0
  have a1 := ld_h (stage1_0 0) c f0 1 inb_S2x16x64x16_S1x16x64x16_1_0_0_0
  have b0 := ld_h (stage1_1 0) c f1 0 inb_S2x16x64x16_S1x16x64x16_0_0_0_0
  have b1 := ld_h (stage1_1 0) c f1 1 inb_S2x16x64x16_S1x16x64x16_1_0_0_0
  have c0 := ld_s (stage1_2 0) c f2 0 inb_S2x16x3x16_S1x16x3x16_0_0_0_0
  have c1 := ld_s (stage1_2 0) c f2 1 inb_S2x16x3x16_S1x16x3x16_1_0_0_0
  have d0 := ld_s (stage1_3 0) c f3 0 inb_S2x16x3x16_S1x16x3x16_0_0_0_0
  have d1 := ld_s (stage1_3 0) c f3 1 inb_S2x16x3x16_S1x16x3x16_1_0_0_0
  simp only [Fin.val_zero, Fin.val_one] at a0 a1 b0 b1 c0 c1 d0 d1
  simp only [a0, a1, b0, b1, c0, c1, d0, d1]
  rfl

variable (Vd : Dev nD → Valuation τ sig (Elt Ideal))

theorem tail_after (c : Dev nD) (t : Fin cfg1.N) : (tailDat (F := Ideal) Vd c).after 4 t
    = (tailRun (F := Ideal) c (Vd c (Proc.devRef .tc main_v3)) (Vd c (Proc.devRef .tc main_v4)) (Vd c (Proc.devRef .tc main_v5)) (Vd c (Proc.devRef .tc main_v6))).1 := rfl

/-- The tail leaves that loss in its result's array. -/
theorem tailOut_eq (c : Dev nD) : tailOut (F := Ideal) Vd c
    = fun _ => lossTail (Vd c (dr main_v3)) (Vd c (dr main_v4)) (Vd c (dr main_v5)) (Vd c (dr main_v6)) := by
  unfold tailOut
  refine (Dat.arrAt_eq_of_cover (tailDat (F := Ideal) Vd c) 4 (tailRun (F := Ideal) c (Vd c (Proc.devRef .tc main_v3)) (Vd c (Proc.devRef .tc main_v4)) (Vd c (Proc.devRef .tc main_v5)) (Vd c (Proc.devRef .tc main_v6))).1 ?_ ?_).trans (tail_run c _ _ _ _)
  · intro t _
    obtain rfl := fin_N1 t
    refine Eq.trans ?_ (blk_read4 (F := Ideal) _).symm
    rfl
  · intro i
    exact ⟨t1_0, by decide, Finset.mem_map.mpr ⟨i, Finset.mem_univ _, funext fun a => Fin.ext (show 0 * S1x1.size a + 1 * (i a).val = (i a).val by omega)⟩⟩

/-! ## The whole program -/

/-- The loss of two batches of images, as the kernel adds it up. -/
def lossK (x y : Imgs) : EReal := lossOf (meanOf x) (histOf x) (histOf y) (ratioByChannel (meanOf x) (meanOf y))

variable (m : (ℓ : Loc nD τ sig) → Buf (Elt Ideal) ℓ) (d : Dev nD)

theorem X_eq : X m d = shapeCast S48x512x512 (m (aLoc d main_arg0)) shapeCasts_S16x3x512x512_S48x512x512 := by
  unfold X V2 opX opY
  rw [StableHlo.reshape_result_ne' _ _ _ _ _ (by decide), StableHlo.reshape_result']
  rfl
theorem Y_eq : Y m d = shapeCast S48x512x512 (m (aLoc d main_arg1)) shapeCasts_S16x3x512x512_S48x512x512 := by
  unfold Y V2 opX opY
  rw [StableHlo.reshape_result', StableHlo.reshape_result_ne' _ _ _ _ _ (by decide)]
  rfl

theorem V3_0 : V3 m d (dr main_v2_0) = Hx m d := by
  unfold V3
  rw [Function.update_of_ne (by decide), Function.update_of_ne (by decide), Function.update_of_ne (by decide), Function.update_self]
theorem V3_1 : V3 m d (dr main_v2_1) = Hy m d := by
  unfold V3
  rw [Function.update_of_ne (by decide), Function.update_of_ne (by decide), Function.update_self]
theorem V3_2 : V3 m d (dr main_v2_2) = Sx m d := by
  unfold V3
  rw [Function.update_of_ne (by decide), Function.update_self]
theorem V3_3 : V3 m d (dr main_v2_3) = Sy m d := by
  unfold V3
  rw [Function.update_self]

theorem V7_3 : V7 m d (dr main_v3) = shapeCast S2x16x64x16 (Hx m d) shapeCasts_S32768_S2x16x64x16 := by
  unfold V7 op3 op4 op5 op6
  rw [StableHlo.reshape_result_ne' _ _ _ _ _ (by decide), StableHlo.reshape_result_ne' _ _ _ _ _ (by decide),
    StableHlo.reshape_result_ne' _ _ _ _ _ (by decide), StableHlo.reshape_result', V3_0]
  rfl
theorem V7_4 : V7 m d (dr main_v4) = shapeCast S2x16x64x16 (Hy m d) shapeCasts_S32768_S2x16x64x16 := by
  unfold V7 op3 op4 op5 op6
  rw [StableHlo.reshape_result_ne' _ _ _ _ _ (by decide), StableHlo.reshape_result_ne' _ _ _ _ _ (by decide),
    StableHlo.reshape_result', StableHlo.reshape_result_ne' _ _ _ _ _ (by decide), V3_1]
  rfl
theorem V7_5 : V7 m d (dr main_v5) = shapeCast S2x16x3x16 (Sx m d) shapeCasts_S1536_S2x16x3x16 := by
  unfold V7 op3 op4 op5 op6
  rw [StableHlo.reshape_result_ne' _ _ _ _ _ (by decide), StableHlo.reshape_result', StableHlo.reshape_result_ne' _ _ _ _ _ (by decide),
    StableHlo.reshape_result_ne' _ _ _ _ _ (by decide), V3_2]
  rfl
theorem V7_6 : V7 m d (dr main_v6) = shapeCast S2x16x3x16 (Sy m d) shapeCasts_S1536_S2x16x3x16 := by
  unfold V7 op3 op4 op5 op6
  rw [StableHlo.reshape_result', StableHlo.reshape_result_ne' _ _ _ _ _ (by decide), StableHlo.reshape_result_ne' _ _ _ _ _ (by decide),
    StableHlo.reshape_result_ne' _ _ _ _ _ (by decide), V3_3]
  rfl

theorem V9_loss : V9 m d (dr main_v8) = fun _ => lossTail (V7 m d (dr main_v3)) (V7 m d (dr main_v4)) (V7 m d (dr main_v5)) (V7 m d (dr main_v6)) := by
  unfold V9 op8
  rw [StableHlo.reshape_result']
  unfold V8 tailV
  rw [Function.update_self, tailOut_eq]
  rfl

/-- The kernel's result. -/
theorem kernel_value (hx : ∀ b h w, NoWrap (lum (m (aLoc d main_arg0)) b h w)) (hy : ∀ b h w, NoWrap (lum (m (aLoc d main_arg1)) b h w)) :
    V9 m d (dr main_v8) = fun _ => lossK (m (aLoc d main_arg0)) (m (aLoc d main_arg1)) := by
  rw [V9_loss, V7_3, V7_4, V7_5, V7_6]
  funext _
  unfold lossTail lossK Hx Hy Sx Sy
  have hX : ∀ _ : grid0.Coords, srcX.view.read (Elt Ideal) (X m d) = shapeCast S48x512x512 (m (aLoc d main_arg0)) shapeCasts_S16x3x512x512_S48x512x512 := fun _ => X_eq m d
  have hY : ∀ _ : grid0.Coords, srcY.view.read (Elt Ideal) (Y m d) = shapeCast S48x512x512 (m (aLoc d main_arg1)) shapeCasts_S16x3x512x512_S48x512x512 := fun _ => Y_eq m d
  simp only [hist_total d srcX _ _ _ hX hx, hist_total d srcY _ _ _ hY hy, sums_total d srcX _ _ _ hX, sums_total d srcY _ _ _ hY]
  rfl

end Cert.Proof.Val
-- ==== Proof.RefVal.lean ====
/-
  The reference's buffers over the extended reals: the channel means, a pixel's bin, and the histograms.
-/
module

public import proofs.«01_k».proof.Proof.TileVal
public import proofs.«01_k».proof.Proof.Loss
public import proofs.«01_k».proof.Proof.Gen.ReferenceIdeal.Run
public import Idealize.ShloMosaic.Lib.Pointwise
public import Idealize.ShloMosaic.Lib.ValueIdxRank1

@[expose] public section

set_option maxRecDepth 16384

noncomputable section

namespace Cert.Proof.Val

open Idealize.ShloMosaic Cert.ReferenceIdeal Cert.ReferenceIdeal.Gen Cert.ReferenceIdeal.Value

/-! ## The scatter -/

/-- The histograms' scatter: one index word per update, one slot per bin. -/
abbrev scat : ScatterDims S1024 S4194304x1 S4194304 := scatter_S1024_S4194304x1_S4194304_n_0_0_1

theorem scat_start (idx : IVec S4194304x1 32) (i : Fin 4194304) : scat.start (ix1 i) idx 0 = (idx (ix2 i 0)).toInt := by
  unfold ScatterDims.start
  refine (dif_pos (show (0 : Fin 1) ∈ [(0 : Fin 1)] by decide)).trans (congrArg (fun k => (idx k).toInt) (funext fun k => ?_))
  fin_cases k <;> rfl
theorem scat_window (i : Fin 4194304) : scat.window (ix1 i) 0 = 0 := rfl

/-- Update `i` lands at the slot its index word, read signed, names. -/
theorem lands (idx : IVec S4194304x1 32) (i : Fin 4194304) (x : Fin 1024) :
    scat.resultIdx? (ix1 i) idx = some (ix1 x) ↔ (idx (ix2 i 0)).toInt = (x.val : ℤ) := by
  have hall : (∀ a : Fin 1, 0 ≤ scat.start (ix1 i) idx a + (scat.window (ix1 i) a : ℤ)
      ∧ scat.start (ix1 i) idx a + (scat.window (ix1 i) a : ℤ) < (S1024.size a : ℤ))
      ↔ 0 ≤ (idx (ix2 i 0)).toInt ∧ (idx (ix2 i 0)).toInt < 1024 := by
    rw [Fin.forall_fin_one, scat_start, scat_window, Nat.cast_zero, add_zero]; rfl
  have hx := x.isLt
  unfold ScatterDims.resultIdx?
  by_cases H : 0 ≤ (idx (ix2 i 0)).toInt ∧ (idx (ix2 i 0)).toInt < 1024
  · refine (Eq.congr_left (dif_pos (hall.2 H))).trans ?_
    constructor
    · intro e
      have e0 : (scat.start (ix1 i) idx 0 + (scat.window (ix1 i) 0 : ℤ)).toNat = x.val := congrArg Fin.val (congrFun (Option.some.inj e) 0)
      rw [scat_start, scat_window] at e0
      omega
    · intro e
      refine congrArg some (funext fun a => Fin.ext ?_)
      obtain rfl : a = 0 := Subsingleton.elim _ _
      show (scat.start (ix1 i) idx 0 + (scat.window (ix1 i) 0 : ℤ)).toNat = x.val
      rw [scat_start, scat_window]
      omega
  · refine (Eq.congr_left (dif_neg fun h => H (hall.1 h))).trans ⟨fun e => (nomatch e), fun e => (H (by omega)).elim⟩

/-- The slot a word names, the sign test having passed. -/
theorem slot_at (w : IVec S4194304 32) (n : Fin 4194304) (hw : (w (ix1 n)).toNat < 1024) :
    broadcastInDim S4194304x1 ![0] bcast_S4194304_S4194304x1_0 (select (cmpi .slt w (broadcastInDim S4194304 ![] bcast_S_S4194304 (constantI S_ 32 0#32)))
      (addi w (broadcastInDim S4194304 ![] bcast_S_S4194304 (constantI S_ 32 1024#32))) w) (ix2 n 0) = w (ix1 n) := by
  pointwise []
  have hn : (w (ix1 n)).slt 0#32 = false := by
    rw [BitVec.slt_eq_decide, BitVec.toInt_eq_toNat_of_lt (by omega), decide_eq_false_iff_not, BitVec.toInt_zero]
    omega
  show (if BitVec.ofBool ((w (ix1 n)).slt 0#32) = 1#1 then _ else _) = _
  rw [hn]
  rfl

/-- A fold of comparison bits counts. -/
theorem fold_count {ι : Type} [DecidableEq ι] (p : ι → Prop) [DecidablePred p] (s : Finset ι) :
    Finset.fold IntOp.addi (0#32) (fun x => BitVec.setWidth 32 (BitVec.ofBool (decide (p x)))) s = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem fun hm => ha (Finset.mem_filter.1 hm).1, Nat.add_comm, BitVec.ofNat_add]
      simp only [h, decide_true]
      rfl
    · rw [if_neg h]
      simp only [h, decide_false]
      exact BitVec.zero_add _

section
variable (V : Valuation τ sig (Elt Ideal))

theorem ofBits_zero' : Ideal.ofBits .f32 0#32 = 0 := by simp [Ideal.ofBits, Ideal.ieee]
theorem ofBits_one' : Ideal.ofBits .f32 1065353216#32 = 1 := by
  simp [Ideal.ofBits, Ideal.ieee]
  rw [← EReal.coe_mul]
  norm_num

theorem ref_edge (e : Fin 65) : res_main_v1 V (ix1 e) = ((e.val / 64 : ℝ) : EReal) := by
  pointwise [res_main_v1, res_main_call0_v0, res_main_call0_v1, res_main_call0_v6]
  have he := e.isLt
  have hs : (FloatOps.sitofp (F := Ideal) .f32 (BitVec.ofNat 32 e.val) : EReal) = ((e.val : ℝ) : EReal) := by
    show (((BitVec.ofNat 32 e.val).toInt : ℝ) : EReal) = _
    rw [BitVec.toInt_eq_toNat_of_lt (by rw [BitVec.toNat_ofNat]; omega), BitVec.toNat_ofNat, Nat.mod_eq_of_lt (by omega)]
    rfl
  split
  · show Ideal.ofBits .f32 0#32 * _ + Ideal.ofBits .f32 1065353216#32 * _ = _
    rw [ofBits_zero', ofBits_one', zero_mul, zero_add, one_mul, hs, ofBits_64, Ideal.div_coe (by norm_num), ← EReal.coe_mul]
    exact congrArg _ (by ring)
  · show Ideal.ofBits .f32 1065353216#32 = _
    rw [ofBits_one', show e.val = 64 by omega]
    norm_num

theorem ref_unit (b : Fin 16) (c : Fin 3) (h w : Fin 512) : res_main_v5 V (ix4 b c h w) = unitOf (V (Proc.devRef .tc main_arg0) (ix4 b c h w)) := by
  pointwise [res_main_v5]
  rfl
theorem ref_unit' (b : Fin 16) (c : Fin 3) (h w : Fin 512) : res_main_v9 V (ix4 b c h w) = unitOf (V (Proc.devRef .tc main_arg1) (ix4 b c h w)) := by
  pointwise [res_main_v9]
  rfl

theorem ref_weight (c : Fin 3) : res_main_v0 V (ix4 0 c 0 0) = (![Ideal.ofBits .f32 0x3E991687#32, Ideal.ofBits .f32 0x3F1645A2#32, Ideal.ofBits .f32 0x3DE978D5#32] : Fin 3 → EReal) c := by
  pointwise [res_main_v0]
  fin_cases c <;> rfl

theorem ref_off (n : Fin 16) : res_main_v82 V (ix2 n 0) = BitVec.ofNat 32 (n.val * 64) := by
  pointwise [res_main_v82]
  exact (BitVec.ofNat_mul ..).symm

/-- The word of a pixel's slot, from how many edges are below its luminance. -/
theorem bin_word (b : Fin 16) (E : Fin 65 → EReal) (hE : ∀ e, E e = ((e.val / 64 : ℝ) : EReal)) (l : EReal) (dec : ∀ x, Decidable (E x < l)) :
    IntOp.addi (BitVec.ofNat 32 (b.val * 64)) (IntOp.minsi (id (constantI S_ 32 63#32) ix0) (IntOp.maxsi (id (constantI S_ 32 0#32) ix0)
      (IntOp.subi (Finset.fold IntOp.addi 0#32 (fun x : Fin 65 => BitVec.setWidth 32 (BitVec.ofBool (@decide (E x < l) (dec x)))) Finset.univ) 1#32)))
      = BitVec.ofNat 32 (b.val * 64 + binOf l) := by
  have hf := @fold_count (Fin 65) _ (fun x => E x < l) dec Finset.univ
  have hc : (@Finset.filter (Fin 65) (fun x => E x < l) dec Finset.univ).card = edgesBelow l := by
    obtain rfl : E = fun e => ((e.val / 64 : ℝ) : EReal) := funext hE
    unfold edgesBelow
    congr
  rw [hf, hc]
  have hb := bin_ref l
  have hl := binOf_lt l
  have hbl := b.isLt
  refine BitVec.eq_of_toNat_eq ((BitVec.toNat_add _ _).trans ?_)
  rw [BitVec.toNat_ofNat, BitVec.toNat_ofNat]
  refine (congrArg (fun k => (b.val * 64 % 2 ^ 32 + k) % 2 ^ 32) hb).trans ?_
  show (b.val * 64 % 2 ^ 32 + binOf l) % 2 ^ 32 = _
  omega

/-- The slot of a pixel, by its flat position. -/
def slotOf (a : Imgs) (n : Fin 4194304) : ℕ :=
  n.val / 262144 * 64 + binOf (lum a ⟨n.val / 262144, by omega⟩ ⟨n.val % 262144 / 512, by omega⟩ ⟨n.val % 262144 % 512, by omega⟩)

theorem lum_eq (a : Imgs) (b : Fin 16) (h w : Fin 512) :
    unitOf (a (ix4 b 0 h w)) * Ideal.ofBits .f32 0x3E991687#32 + unitOf (a (ix4 b 1 h w)) * Ideal.ofBits .f32 0x3F1645A2#32
      + unitOf (a (ix4 b 2 h w)) * Ideal.ofBits .f32 0x3DE978D5#32 = lum a b h w := rfl
theorem ref_w0 : res_main_v0 V (ix4 0 0 0 0) = Ideal.ofBits .f32 0x3E991687#32 := ref_weight V 0
theorem ref_w1 : res_main_v0 V (ix4 0 1 0 0) = Ideal.ofBits .f32 0x3F1645A2#32 := ref_weight V 1
theorem ref_w2 : res_main_v0 V (ix4 0 2 0 0) = Ideal.ofBits .f32 0x3DE978D5#32 := ref_weight V 2

theorem ref_bin (n : Fin 4194304) : res_main_v86 V (ix1 n) = BitVec.ofNat 32 (slotOf (V (Proc.devRef .tc main_arg0)) n) := by
  have h := bin_word ⟨n.val / 262144, by omega⟩ (fun x => res_main_v1 V (ix1 x)) (ref_edge V)
    (lum (V (Proc.devRef .tc main_arg0)) ⟨n.val / 262144, by omega⟩ ⟨n.val % 262144 / 512, by omega⟩ ⟨n.val % 262144 % 512, by omega⟩) (fun _ => inferInstance)
  refine Eq.trans ?_ h
  pointwise [res_main_v86]
  simp only [Fin.sum_univ_three, ref_w0, ref_w1, ref_w2, ref_unit, ref_off, lum_eq]
theorem ref_bin' (n : Fin 4194304) : res_main_v99 V (ix1 n) = BitVec.ofNat 32 (slotOf (V (Proc.devRef .tc main_arg1)) n) := by
  have h := bin_word ⟨n.val / 262144, by omega⟩ (fun x => res_main_v1 V (ix1 x)) (ref_edge V)
    (lum (V (Proc.devRef .tc main_arg1)) ⟨n.val / 262144, by omega⟩ ⟨n.val % 262144 / 512, by omega⟩ ⟨n.val % 262144 % 512, by omega⟩) (fun _ => inferInstance)
  refine Eq.trans ?_ h
  pointwise [res_main_v99]
  simp only [Fin.sum_univ_three, ref_w0, ref_w1, ref_w2, ref_unit', ref_off, lum_eq]
end

/-- A pixel's slot, by any number for its flat position. -/
def slotNat (a : Imgs) (n : ℕ) : ℕ :=
  n / 262144 % 16 * 64 + binOf (lum a ⟨n / 262144 % 16, by omega⟩ ⟨n % 262144 / 512 % 512, by omega⟩ ⟨n % 262144 % 512, by omega⟩)

theorem slotOf_eq (a : Imgs) (n : Fin 4194304) : slotOf a n = slotNat a n.val := by
  have hn := n.isLt
  unfold slotOf slotNat
  have e1 : n.val / 262144 % 16 = n.val / 262144 := by omega
  have e2 : n.val % 262144 / 512 % 512 = n.val % 262144 / 512 := by omega
  simp only [e1, e2]

theorem slotNat_lt (a : Imgs) (n : ℕ) : slotNat a n < 1024 := by
  have := binOf_lt (lum a ⟨n / 262144 % 16, by omega⟩ ⟨n % 262144 / 512 % 512, by omega⟩ ⟨n % 262144 % 512, by omega⟩)
  unfold slotNat
  omega

theorem slotNat_at (a : Imgs) (b : Fin 16) (h w : Fin 512) : slotNat a (b.val * 262144 + (h.val * 512 + w.val)) = b.val * 64 + binOf (lum a b h w) := by
  have hb := b.isLt
  have hh := h.isLt
  have hw := w.isLt
  unfold slotNat
  have e1 : (b.val * 262144 + (h.val * 512 + w.val)) / 262144 % 16 = b.val := by omega
  have e2 : (b.val * 262144 + (h.val * 512 + w.val)) % 262144 / 512 % 512 = h.val := by omega
  have e3 : (b.val * 262144 + (h.val * 512 + w.val)) % 262144 % 512 = w.val := by omega
  simp only [e1, e2, e3]

/-- A sum over the flat positions, by image, row and column. -/
theorem sum_flat (f : ℕ → EReal) :
    ∑ n : Fin 4194304, f n.val = ∑ b : Fin 16, ∑ h : Fin 512, ∑ w : Fin 512, f (b.val * 262144 + (h.val * 512 + w.val)) := by
  rw [← Finset.sum_range (n := 4194304) (fun n => f n), show 4194304 = 16 * 262144 by norm_num, sum_range_mul, Finset.sum_range]
  refine Finset.sum_congr rfl fun b _ => ?_
  rw [show 262144 = 512 * 512 by norm_num, sum_range_mul, Finset.sum_range]
  refine Finset.sum_congr rfl fun h _ => ?_
  rw [Finset.sum_range]

/-- The pixels of one slot are those of its image and bin. -/
theorem sum_slots (a : Imgs) (b : Fin 16) (j : Fin 64) :
    (∑ n : Fin 4194304, if slotNat a n.val = b.val * 64 + j.val then (1 : EReal) else 0) = histOf a b j := by
  rw [sum_flat fun n => if slotNat a n = b.val * 64 + j.val then (1 : EReal) else 0]
  simp only [slotNat_at]
  have hj := j.isLt
  unfold histOf
  rw [Finset.sum_eq_single b]
  · refine Finset.sum_congr rfl fun h _ => Finset.sum_congr rfl fun w _ => ?_
    simp only [Nat.add_left_cancel_iff]
  · intro b' _ hne
    refine Finset.sum_eq_zero fun h _ => Finset.sum_eq_zero fun w _ => if_neg fun e => hne (Fin.ext ?_)
    have := binOf_lt (lum a b' h w)
    omega
  · exact fun h => (h (Finset.mem_univ _)).elim

theorem scatterAdd_apply {s si u : Shape} (d : ScatterDims s si u) (x : s.Idx → EReal) (idx : IVec si 32) (upd : u.Idx → EReal) (i : s.Idx) :
    (Host.scatterAdd (F := Ideal) (φ := .f32) d x idx upd i : EReal) = x i + ∑ j ∈ Finset.univ.filter (fun j => d.resultIdx? j idx = some i), upd j := rfl

/-- A scatter of ones, read at a slot, counts the index words naming it. -/
theorem scat_count (x : S1024.Idx → EReal) (idx : IVec S4194304x1 32) (u : S4194304.Idx → EReal) (k : Fin 1024) (f : ℕ → ℕ) (hf : ∀ n, f n < 1024)
    (hi : ∀ n : Fin 4194304, idx (ix2 n 0) = BitVec.ofNat 32 (f n.val)) (hx : x (ix1 k) = 0) (hu : ∀ n, u n = 1) :
    (Host.scatterAdd (F := Ideal) (φ := .f32) scat x idx u (ix1 k) : EReal) = ∑ n : Fin 4194304, if f n.val = k.val then (1 : EReal) else 0 := by
  rw [scatterAdd_apply, hx, zero_add, Finset.sum_filter, ← Equiv.sum_comp (ValueIdx.idxEquiv1 (n := 4194304)).symm]
  refine Finset.sum_congr rfl fun n _ => ?_
  rw [hu]
  refine if_congr ((lands idx n k).trans ?_) rfl rfl
  have := hf n.val
  rw [hi, BitVec.toInt_eq_toNat_of_lt (by rw [BitVec.toNat_ofNat]; omega), BitVec.toNat_ofNat, Nat.mod_eq_of_lt (by omega)]
  omega

/-- A histogram's scatter of slots, read at a bin. -/
theorem hist_scatter (a : Imgs) (w : IVec S4194304 32) (hw : ∀ n, w (ix1 n) = BitVec.ofNat 32 (slotOf a n)) (b : Fin 16) (j : Fin 64) (k : Fin 1024) (hk : k.val = b.val * 64 + j.val) :
    (Host.scatterAdd (F := Ideal) (φ := .f32) scat (broadcastInDim S1024 ![] bcast_S_S1024 (constant (F := Ideal) S_ .f32 0x00000000#32))
      (broadcastInDim S4194304x1 ![0] bcast_S4194304_S4194304x1_0 (select (cmpi .slt w (broadcastInDim S4194304 ![] bcast_S_S4194304 (constantI S_ 32 0#32)))
        (addi w (broadcastInDim S4194304 ![] bcast_S_S4194304 (constantI S_ 32 1024#32))) w))
      (broadcastInDim S4194304 ![] bcast_S_S4194304 (constant (F := Ideal) S_ .f32 0x3F800000#32)) (ix1 k) : EReal) = histOf a b j := by
  refine (scat_count _ _ _ k (slotNat a) (slotNat_lt a) (fun n => ?_) ?_ (fun _ => ?_)).trans ?_
  · rw [slot_at w n, hw, slotOf_eq]
    rw [hw, slotOf_eq, BitVec.toNat_ofNat]
    have := slotNat_lt a n.val
    omega
  · exact ofBits_zero'
  · exact ofBits_one'
  · rw [hk]; exact sum_slots a b j

end Cert.Proof.Val
-- ==== Proof.RefLoss.lean ====
/-
  The reference's result: the same loss, its ratio part averaged over images and channels at once.
-/
module

public import proofs.«01_k».proof.Proof.RefVal

@[expose] public section

set_option maxRecDepth 16384

noncomputable section

namespace Cert.Proof.Val

open Idealize.ShloMosaic Cert.ReferenceIdeal Cert.ReferenceIdeal.Gen Cert.ReferenceIdeal.Value

/-- The loss of two batches of images, as the reference adds it up. -/
def lossR (x y : Imgs) : EReal := lossOf (meanOf x) (histOf x) (histOf y) (ratioAtOnce (meanOf x) (meanOf y))

/-! ## The terms' parts, over any arrays -/

theorem cast_hist (g : S1024.Idx → EReal) (hc : S1024.ShapeCasts S16x64) (b : Fin 16) (j : Fin 64) (k : Fin 1024) (hk : k.val = b.val * 64 + j.val) :
    shapeCast S16x64 g hc (ix2 b j) = g (ix1 k) :=
  shapeCast_apply _ _ _ _ (by rw [Shape.rowMajor_val_one, Shape.rowMajor_val_two]; exact hk)

theorem freq_at (H : FVec Ideal S16x64 .f32) (b : Fin 16) (j : Fin 64) :
    Host.divf (addf H (broadcastInDim S16x64 ![] bcast_S_S16x64 (constant S_ .f32 0x358637BD#32))) (broadcastInDim S16x64 ![0, 1] bcast_S16x1_S16x64_0_1
      (addf (broadcastInDim S16x1 ![0] bcast_S16_S16x1_0 (Host.reduceAdd H (constant S_ .f32 0x00000000#32) reducesTo_S16x64_S16_d1 h_S_))
        (broadcastInDim S16x1 ![] bcast_S_S16x1 (constant S_ .f32 0x388637BD#32)))) (ix2 b j) = freq (fun b j => H (ix2 b j)) b j := by
  pointwise []
  rfl

theorem kl_at (p q : FVec Ideal S16x64 .f32) :
    Host.divf (Host.reduceAdd (mulf p (subf (Host.log p) (Host.log q))) (constant S_ .f32 0x00000000#32) reducesTo_S16x64_S_d0_1 h_S_) (constant S_ .f32 0x41800000#32) ix0
      = Ideal.div (∑ b : Fin 16, ∑ j : Fin 64, p (ix2 b j) * (Ideal.log (p (ix2 b j)) - Ideal.log (q (ix2 b j)))) sixteen := by
  pointwise []
  rfl

theorem grey_at (r g b : FVec Ideal S16x1x1 .f32) :
    Host.divf (Host.reduceAdd (addf (addf (Host.absf (subf r g)) (Host.absf (subf g b))) (Host.absf (subf b r))) (constant S_ .f32 0x00000000#32) reducesTo_S16x1x1_S_d0_1_2 h_S_)
        (constant S_ .f32 0x41800000#32) ix0
      = Ideal.div (∑ i : Fin 16, ((absE (r (ix3 i 0 0) - g (ix3 i 0 0)) + absE (g (ix3 i 0 0) - b (ix3 i 0 0))) + absE (b (ix3 i 0 0) - r (ix3 i 0 0)))) sixteen := by
  pointwise []
  simp only [Finset.univ_unique, Finset.sum_singleton]
  rfl

theorem share_at (m : FVec Ideal S16x3x1x1 .f32) (b : Fin 16) (c : Fin 3) :
    Host.divf m (broadcastInDim S16x3x1x1 ![0, 1, 2, 3] bcast_S16x1x1x1_S16x3x1x1_0_1_2_3 (addf (broadcastInDim S16x1x1x1 ![0, 2, 3] bcast_S16x1x1_S16x1x1x1_0_2_3
      (Host.reduceAdd m (constant S_ .f32 0x00000000#32) reducesTo_S16x3x1x1_S16x1x1_d1 h_S_)) (broadcastInDim S16x1x1x1 ![] bcast_S_S16x1x1x1 (constant S_ .f32 0x358637BD#32)))) (ix4 b c 0 0)
      = share (fun b c => m (ix4 b c 0 0)) b c := by
  pointwise []
  simp only [Fin.sum_univ_three]
  rfl

theorem ratio_at (p q : FVec Ideal S16x3x1x1 .f32) :
    Host.divf (Host.reduceAdd (Host.absf (subf p q)) (constant S_ .f32 0x00000000#32) reducesTo_S16x3x1x1_S_d0_1_2_3 h_S_) (constant S_ .f32 0x42400000#32) ix0
      = Ideal.div (∑ b : Fin 16, ∑ c : Fin 3, absE (p (ix4 b c 0 0) - q (ix4 b c 0 0))) (Ideal.ofBits .f32 0x42400000#32) := by
  pointwise []
  refine congrArg (Ideal.div · _) ?_
  rw [Ideal.hostReduceAdd_total _ (fun b => b.elim0), zero_add, sum_idx4]
  simp only [Finset.univ_unique, Finset.sum_singleton]
  rfl

theorem whole_at (A B C : FVec Ideal S_ .f32) :
    mulf (constant S_ .f32 0x41200000#32) (addf (addf A B) C) ix0 = Ideal.ofBits .f32 0x41200000#32 * ((A ix0 + B ix0) + C ix0) := rfl

variable (V : Valuation τ sig (Elt Ideal))

theorem ref_mean (b : Fin 16) (c : Fin 3) : res_main_v13 V (ix4 b c 0 0) = meanOf (V (Proc.devRef .tc main_arg0)) b c := by
  pointwise [res_main_v13]
  simp only [ref_unit]
  rfl
theorem ref_mean' (b : Fin 16) (c : Fin 3) : res_main_v17 V (ix4 b c 0 0) = meanOf (V (Proc.devRef .tc main_arg1)) b c := by
  pointwise [res_main_v17]
  simp only [ref_unit']
  rfl

theorem ref_hist (b : Fin 16) (j : Fin 64) : res_main_v95 V (ix2 b j) = histOf (V (Proc.devRef .tc main_arg0)) b j := by
  have hb := b.isLt
  have hj := j.isLt
  have h := hist_scatter (V (Proc.devRef .tc main_arg0)) (res_main_v86 V) (ref_bin V) b j ⟨b.val * 64 + j.val, by omega⟩ rfl
  unfold res_main_v95
  exact (cast_hist _ _ b j _ rfl).trans h
theorem ref_hist' (b : Fin 16) (j : Fin 64) : res_main_v108 V (ix2 b j) = histOf (V (Proc.devRef .tc main_arg1)) b j := by
  have hb := b.isLt
  have hj := j.isLt
  have h := hist_scatter (V (Proc.devRef .tc main_arg1)) (res_main_v99 V) (ref_bin' V) b j ⟨b.val * 64 + j.val, by omega⟩ rfl
  unfold res_main_v108
  exact (cast_hist _ _ b j _ rfl).trans h

theorem ref_freq (b : Fin 16) (j : Fin 64) : res_main_v124 V (ix2 b j) = freq (histOf (V (Proc.devRef .tc main_arg1))) b j := by
  unfold res_main_v124
  refine (freq_at (res_main_v108 V) b j).trans ?_
  rw [show (fun b j => res_main_v108 V (ix2 b j)) = histOf (V (Proc.devRef .tc main_arg1)) from funext fun b => funext fun j => ref_hist' V b j]

theorem ref_r (b : Fin 16) : res_main_v19 V (ix3 b 0 0) = meanOf (V (Proc.devRef .tc main_arg0)) b 0 := by
  refine Eq.trans ?_ (ref_mean V b 0)
  unfold res_main_v19
  generalize res_main_v13 V = m
  pointwise []
theorem ref_g (b : Fin 16) : res_main_v21 V (ix3 b 0 0) = meanOf (V (Proc.devRef .tc main_arg0)) b 1 := by
  refine Eq.trans ?_ (ref_mean V b 1)
  unfold res_main_v21
  generalize res_main_v13 V = m
  pointwise []
theorem ref_b (b : Fin 16) : res_main_v23 V (ix3 b 0 0) = meanOf (V (Proc.devRef .tc main_arg0)) b 2 := by
  refine Eq.trans ?_ (ref_mean V b 2)
  unfold res_main_v23
  generalize res_main_v13 V = m
  pointwise []

/-- The reference's result. -/
theorem ref_value : val4 V (Proc.devRef .tc main_v132) = fun _ => lossR (V (Proc.devRef .tc main_arg0)) (V (Proc.devRef .tc main_arg1)) := by
  refine (val4_main_v132 V).trans (funext fun i => ?_)
  obtain rfl : i = ix0 := Subsingleton.elim _ _
  refine (whole_at _ _ _).trans ?_
  unfold lossR lossOf
  refine congrArg (Ideal.ofBits .f32 0x41200000#32 * ·) (congrArg₂ (· + ·) (congrArg₂ (· + ·) ?_ ?_) ?_)
  · refine (grey_at _ _ _).trans (congrArg (Ideal.div · sixteen) (Finset.sum_congr rfl fun b _ => ?_))
    rw [ref_r, ref_g, ref_b]
    rfl
  · refine (ratio_at _ _).trans (congrArg (Ideal.div · _) (Finset.sum_congr rfl fun b _ => Finset.sum_congr rfl fun c _ => ?_))
    unfold ratioTerm
    refine congrArg absE (congrArg₂ (· - ·) ((share_at _ b c).trans ?_) ((share_at _ b c).trans ?_))
    · rw [show (fun b c => res_main_v13 V (ix4 b c 0 0)) = meanOf (V (Proc.devRef .tc main_arg0)) from funext fun b => funext fun c => ref_mean V b c]
    · rw [show (fun b c => res_main_v17 V (ix4 b c 0 0)) = meanOf (V (Proc.devRef .tc main_arg1)) from funext fun b => funext fun c => ref_mean' V b c]
  · refine (kl_at _ _).trans (congrArg (Ideal.div · sixteen) (Finset.sum_congr rfl fun b _ => Finset.sum_congr rfl fun j _ => ?_))
    have hq := (freq_at (res_main_v95 V) b j).trans (congrFun (congrFun (congrArg freq (funext fun b => funext fun j => ref_hist V b j)) b) j)
    unfold klTerm
    exact congrArg₂ (· * ·) (ref_freq V b j) (congrArg₂ (· - ·) (congrArg Ideal.log (ref_freq V b j)) (congrArg Ideal.log hq))

end Cert.Proof.Val
-- ==== Proof.PreVal.lean ====
/-
  The precondition read at a pixel: no pixel's luminance times 64 is exactly -2^31.
-/
module

public import proofs.«01_k».proof.Proof.Loss
public import proofs.«01_k».proof.Proof.Gen.Pre_no_wrapping_bin
public import Idealize.ShloMosaic.Lib.Pointwise

@[expose] public section

set_option maxRecDepth 16384

noncomputable section

namespace Cert.Proof.Val

open Idealize.ShloMosaic Cert.Pre_no_wrapping_bin Cert.Pre_no_wrapping_bin.Gen

theorem ofBits_wrap : Ideal.ofBits .f32 0xCF000000#32 = ((-(2 ^ 31) : ℝ) : EReal) := by
  simp [Ideal.ofBits, Ideal.ieee]
  rw [← EReal.coe_pow, ← EReal.coe_pow, ← EReal.coe_mul]
  norm_num

/-- A comparison's bit set is the comparison. -/
theorem noWrap_of_bit (l : EReal) (dec : Decidable (l * Ideal.ofBits .f32 0x42800000#32 ≠ Ideal.ofBits .f32 0xCF000000#32))
    (e : BitVec.ofBool (@decide (l * Ideal.ofBits .f32 0x42800000#32 ≠ Ideal.ofBits .f32 0xCF000000#32) dec) = 1#1) : NoWrap l := by
  unfold NoWrap
  rw [← ofBits_64, ← ofBits_wrap]
  cases dec with
  | isTrue h => exact h
  | isFalse h => exact absurd (show BitVec.ofBool false = 1#1 from e) (by decide)

theorem pre_x (x y : Imgs) (h : (fn (F := Ideal) x y).1 = fun _ => 1#1) (b : Fin 16) (r w : Fin 512) : NoWrap (lum x b r w) := by
  have e := congrFun h (ix3 b r w)
  revert e
  unfold fn fn_part1 fn_part2
  dsimp only
  pointwise []
  exact noWrap_of_bit (lum x b r w) _
theorem pre_y (x y : Imgs) (h : (fn (F := Ideal) x y).2 = fun _ => 1#1) (b : Fin 16) (r w : Fin 512) : NoWrap (lum y b r w) := by
  have e := congrFun h (ix3 b r w)
  revert e
  unfold fn fn_part1 fn_part2
  dsimp only
  pointwise []
  exact noWrap_of_bit (lum y b r w) _

end Cert.Proof.Val
-- ==== Proof.lean ====
/-
  The claim of this certificate. The run of the kernel's program is Proof/Run.lean (`run_main`), over any float
  values; both of its frames are read off it. The reference's run is the generated one. The value claim puts together
  what the kernel's run leaves (Proof/KerLoss.lean), what the reference's leaves (Proof/RefLoss.lean), the precondition
  at a pixel (Proof/PreVal.lean) and the one identity between the two losses (Proof/Loss.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_no_wrapping_bin
public import proofs.«01_k».proof.Proof.Run
public import proofs.«01_k».proof.Proof.Same
public import proofs.«01_k».proof.Proof.KerLoss
public import proofs.«01_k».proof.Proof.RefLoss
public import proofs.«01_k».proof.Proof.PreVal
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame, on the programs as printed: the two have one text, so the run is the same. -/
theorem frame_kernel : Cert.quiescent_Kernel := fun m ρ _ =>
  (θ_run Cert.Kernel.defs _ _).mono (fun _ h => ⟨fun c => (h.1 c).1, h.2⟩) (Tile.run_printed (F := Bits) m ρ)

theorem frame_ideal : Cert.quiescent_KernelIdeal := fun m ρ _ =>
  (θ_run Cert.KernelIdeal.defs _ _).mono (fun _ h => ⟨fun c => (h.1 c).1, h.2⟩) (Tile.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two losses are one. -/
theorem loss_eq (x y : Val.Imgs) : Val.lossK x y = Val.lossR x y := by
  unfold Val.lossK Val.lossR
  rw [Val.ratio_eq]

/-- The reference's result, from a memory holding the two batches. -/
theorem reference_run (m : (ℓ : Loc Cert.ReferenceIdeal.nD Cert.ReferenceIdeal.τ Cert.ReferenceIdeal.sig) → Buf (Elt Ideal) ℓ) (c : Dev Cert.ReferenceIdeal.nD) :
    Cert.ReferenceIdeal.Value.val4 (F := Ideal) (StableHlo.launchContents m c) (Proc.devRef .tc Cert.ReferenceIdeal.main_v132)
      = fun _ => Val.lossR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) :=
  Val.ref_value (StableHlo.launchContents m c)

/-- Over the extended reals the kernel's result is the reference's, where no bin wraps round. -/
theorem values : Cert.algebraic_KernelIdeal_ReferenceIdeal_pre_no_wrapping_bin := fun m ρ m' ρ' hpre hargs =>
  ⟨fun c => Tile.V9 m c (Tile.dr Cert.KernelIdeal.main_v8),
    (θ_run Cert.KernelIdeal.defs _ _).mono (fun _ h c => ⟨(h.1 c).2, (h.1 c).1.1, (h.1 c).1.2⟩) (Tile.run_main (F := Ideal) m ρ),
    (θ_run Cert.ReferenceIdeal.defs _ _).mono (fun _ h c => by
      refine ⟨?_, (h c).2⟩
      refine ((h c).1.trans (Cert.ReferenceIdeal.Value.val4_main_v132 (F := Ideal) (StableHlo.launchContents m' c)).symm).trans ?_
      refine (reference_run m' c).trans ?_
      rw [(hargs c).1, (hargs c).2, ← loss_eq]
      exact (Val.kernel_value m c (Val.pre_x _ _ (hpre c).1) (Val.pre_y _ _ (hpre c).2)).symm)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_no_wrapping_bin.Gen.facts,
    frame_kernel, frame_ideal, fun m ρ _ => frame_ideal m ρ trivial, frame_reference,
    fun m ρ _ => frame_reference m ρ trivial, trivial, values⟩

end Cert.Proof

end
